-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S256x1536x128 : Shape := ⟨3, ![256, 1536, 128]⟩
abbrev S48x32768 : Shape := ⟨2, ![48, 32768]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S256x1536x128 32) (main_arg1 : FVec F S48x32768 .f32) (main_arg2 : IVec S32768 32) (main_arg3 : IVec S32768 32) (main_arg4 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg4 main_v0
  let main_c_0 : IVec S_ 32 := constantI S_ 32 1524#32
  let main_v2 : IVec S32768 32 := broadcastInDim S32768 ![] bcast_S_S32768 main_c_0
  let main_v3 : IVec S32768 1 := cmpi .sle main_arg4 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Kernel.lean ====
abbrev S256x1536x128 : Shape := ⟨3, ![256, 1536, 128]⟩
abbrev S48x32768 : Shape := ⟨2, ![48, 32768]⟩
abbrev S32768 : Shape := ⟨1, ![32768]⟩
abbrev S1x32768 : Shape := ⟨2, ![1, 32768]⟩
abbrev S128x1x256 : Shape := ⟨3, ![128, 1, 256]⟩
abbrev S48x48x32768 : Shape := ⟨3, ![48, 48, 32768]⟩
abbrev S2x1536x128 : Shape := ⟨3, ![2, 1536, 128]⟩
abbrev S48x256 : Shape := ⟨2, ![48, 256]⟩
abbrev S1x256 : Shape := ⟨2, ![1, 256]⟩
abbrev S1x1x256 : Shape := ⟨3, ![1, 1, 256]⟩
abbrev S48x48x256 : Shape := ⟨3, ![48, 48, 256]⟩
abbrev S128x48x128 : Shape := ⟨3, ![128, 48, 128]⟩
abbrev S1x1x1 : Shape := ⟨3, ![1, 1, 1]⟩
abbrev S1x12x128 : Shape := ⟨3, ![1, 12, 128]⟩
abbrev S12x128 : Shape := ⟨2, ![12, 128]⟩
abbrev S48x128 : Shape := ⟨2, ![48, 128]⟩
abbrev S96x256 : Shape := ⟨2, ![96, 256]⟩
abbrev S48x96 : Shape := ⟨2, ![48, 96]⟩
abbrev S1x48x96 : Shape := ⟨3, ![1, 48, 96]⟩
abbrev S128x1x128 : Shape := ⟨3, ![128, 1, 128]⟩
abbrev S128x128 : Shape := ⟨2, ![128, 128]⟩
abbrev S1x48x128 : Shape := ⟨3, ![1, 48, 128]⟩
abbrev S1x1x128 : Shape := ⟨3, ![1, 1, 128]⟩
abbrev S1x128 : Shape := ⟨2, ![1, 128]⟩
abbrev S1x48x256 : Shape := ⟨3, ![1, 48, 256]⟩
abbrev S32768x48x48 : Shape := ⟨3, ![32768, 48, 48]⟩

abbrev nBuf : Space → Nat
  | .hbm => 10
  | .vmem => 12
  | .smem => 2
  | _ => 0

abbrev bufTy : (tb : Table) → Fin (tcTables nBuf tb) → BufTy
  | .hbm, ⟨0, _⟩ => ⟨S256x1536x128, .i32⟩
  | .hbm, ⟨1, _⟩ => ⟨S48x32768, .f32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S1x32768, .i32⟩
  | .hbm, ⟨6, _⟩ => ⟨S1x32768, .i32⟩
  | .hbm, ⟨7, _⟩ => ⟨S128x1x256, .i32⟩
  | .hbm, ⟨8, _⟩ => ⟨S48x48x32768, .f32⟩
  | .hbm, ⟨9, _⟩ => ⟨S32768x48x48, .f32⟩
  | .local _ .vmem, ⟨0, _⟩ => ⟨S2x1536x128, .i32⟩
  | .local _ .vmem, ⟨1, _⟩ => ⟨S2x1536x128, .i32⟩
  | .local _ .vmem, ⟨2, _⟩ => ⟨S48x256, .f32⟩
  | .local _ .vmem, ⟨3, _⟩ => ⟨S48x256, .f32⟩
  | .local _ .vmem, ⟨4, _⟩ => ⟨S1x256, .i32⟩
  | .local _ .vmem, ⟨5, _⟩ => ⟨S1x256, .i32⟩
  | .local _ .vmem, ⟨6, _⟩ => ⟨S1x256, .i32⟩
  | .local _ .vmem, ⟨7, _⟩ => ⟨S1x256, .i32⟩
  | .local _ .vmem, ⟨8, _⟩ => ⟨S48x48x256, .f32⟩
  | .local _ .vmem, ⟨9, _⟩ => ⟨S48x48x256, .f32⟩
  | .local _ .vmem, ⟨10, _⟩ => ⟨S128x48x128, .f32⟩
  | .local _ .vmem, ⟨11, _⟩ => ⟨S48x256, .f32⟩
  | .local _ .smem, ⟨0, _⟩ => ⟨S1x1x256, .i32⟩
  | .local _ .smem, ⟨1, _⟩ => ⟨S1x1x256, .i32⟩
  | _, _ => ⟨S256x1536x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 3 → Nat :=
  let c0_450 : Index := 0#32
  let c0_451 : Index := 0#32
  let c0_i32_449 : BitVec 32 := 0#32
  let c0_i32 : BitVec 32 := 0#32
  let c1_i32 : BitVec 32 := 1#32
  let arg9 : BitVec 32 := Scf.iv c0_i32 c1_i32 k0_t1
  let v495 : BitVec 32 := Scalar.addi c0_i32_449 arg9
  let v496 : Index := Scalar.indexCast v495
  ![0, 0, v496.toNat]
def k0_off2 (v497 : BitVec 32) : Fin 3 → Nat :=
  let c0_452 : Index := 0#32
  let v498 : Index := Scalar.indexCast v497
  let c0_453 : Index := 0#32
  ![0, v498.toNat, 0]

def k0_chk1 (v497 : BitVec 32) : Prop :=
  (∀ a, (k0_off2 v497) a + S1x12x128.size a ≤ S2x1536x128.size a)
theorem k0_off2_inb : ∀ (v497 : BitVec 32) (k0_hw1 : k0_chk1 v497), ∀ a, (k0_off2 v497) a + S1x12x128.size a ≤ S2x1536x128.size a := fun v497 k0_hw1 => k0_hw1

def k0_off3 (k0_t1 : Fin k0_t1_loop.trips) : Fin 3 → Nat :=
  let c0_455 : Index := 0#32
  let c0_456 : Index := 0#32
  let c128_i32_454 : BitVec 32 := 128#32
  let c0_i32 : BitVec 32 := 0#32
  let c1_i32 : BitVec 32 := 1#32
  let arg9 : BitVec 32 := Scf.iv c0_i32 c1_i32 k0_t1
  let v503 : BitVec 32 := Scalar.addi c128_i32_454 arg9
  let v504 : Index := Scalar.indexCast v503
  ![0, 0, v504.toNat]
def k0_off4 (v505 : BitVec 32) : Fin 3 → Nat :=
  let c1_457 : Index := 1#32
  let v506 : Index := Scalar.indexCast v505
  let c0_458 : Index := 0#32
  ![1, v506.toNat, 0]

def k0_chk2 (v505 : BitVec 32) : Prop :=
  (∀ a, (k0_off4 v505) a + S1x12x128.size a ≤ S2x1536x128.size a)
theorem k0_off4_inb : ∀ (v505 : BitVec 32) (k0_hw2 : k0_chk2 v505), ∀ a, (k0_off4 v505) a + S1x12x128.size a ≤ S2x1536x128.size a := fun v505 k0_hw2 => k0_hw2

def k0_off5 (k0_t1 : Fin k0_t1_loop.trips) : Fin 3 → Nat :=
  let c0_i32 : BitVec 32 := 0#32
  let c1_i32 : BitVec 32 := 1#32
  let arg9 : BitVec 32 := Scf.iv c0_i32 c1_i32 k0_t1
  let v517 : Index := Scalar.indexCast arg9
  let c0_460 : Index := 0#32
  let c0_461 : Index := 0#32
  ![v517.toNat, 0, 0]
@[reducible] def k0_t2_loop : Scf.Loop 32 :=
  let c0_i32_1 : BitVec 32 := 0#32
  let c48_i32 : BitVec 32 := 48#32
  let v1 : BitVec 32 := Scalar.addi c0_i32_1 c48_i32
  let c1_i32_2 : BitVec 32 := 1#32
  ⟨c0_i32_1, v1, c1_i32_2⟩
def k0_off6 (k0_t2 : Fin k0_t2_loop.trips) : Fin 3 → Nat :=
  let c0_449 : Index := 0#32
  let c0_i32_1 : BitVec 32 := 0#32
  let c1_i32_2 : BitVec 32 := 1#32
  let arg9 : BitVec 32 := Scf.iv c0_i32_1 c1_i32_2 k0_t2
  let v495 : Index := Scalar.indexCast arg9
  let c0_450 : Index := 0#32
  ![0, v495.toNat, 0]
def k0_off7 (k0_t2 : Fin k0_t2_loop.trips) : Fin 3 → Nat :=
  let c0_i32_1 : BitVec 32 := 0#32
  let c1_i32_2 : BitVec 32 := 1#32
  let arg9 : BitVec 32 := Scf.iv c0_i32_1 c1_i32_2 k0_t2
  let v500 : Index := Scalar.indexCast arg9
  let c0_451 : Index := 0#32
  let c0_452 : Index := 0#32
  ![v500.toNat, 0, 0]
def k0_off8 (k0_t2 : Fin k0_t2_loop.trips) : Fin 3 → Nat :=
  let c0_i32_1 : BitVec 32 := 0#32
  let c1_i32_2 : BitVec 32 := 1#32
  let arg9 : BitVec 32 := Scf.iv c0_i32_1 c1_i32_2 k0_t2
  let v505 : Index := Scalar.indexCast arg9
  let c0_453 : Index := 0#32
  let c128_454 : Index := 128#32
  ![v505.toNat, 0, 128]
@[reducible] def k0_t3_loop : Scf.Loop 32 :=
  let c0_i32_445 : BitVec 32 := 0#32
  let c48_i32_446 : BitVec 32 := 48#32
  let v494 : BitVec 32 := Scalar.addi c0_i32_445 c48_i32_446
  let c1_i32_447 : BitVec 32 := 1#32
  ⟨c0_i32_445, v494, c1_i32_447⟩
def k0_off9 (k0_t3 : Fin k0_t3_loop.trips) : Fin 2 → Nat :=
  let c0_i32_445 : BitVec 32 := 0#32
  let c1_i32_447 : BitVec 32 := 1#32
  let arg9 : BitVec 32 := Scf.iv c0_i32_445 c1_i32_447 k0_t3
  let v503 : Index := Scalar.indexCast arg9
  let c0_450 : Index := 0#32
  ![v503.toNat, 0]
def k0_off10 (k0_t3 : Fin k0_t3_loop.trips) : Fin 3 → Nat :=
  let c0_i32_445 : BitVec 32 := 0#32
  let c1_i32_447 : BitVec 32 := 1#32
  let arg9 : BitVec 32 := Scf.iv c0_i32_445 c1_i32_447 k0_t3
  let v515 : Index := Scalar.indexCast arg9
  let c0_456 : Index := 0#32
  let c0_457 : Index := 0#32
  ![v515.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x1536x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x48x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1536x128 : Shape := ⟨3, ![256, 1536, 128]⟩
abbrev S48x32768 : Shape := ⟨2, ![48, 32768]⟩
abbrev S32768 : Shape := ⟨1, ![32768]⟩
abbrev S48 : Shape := ⟨1, ![48]⟩
abbrev S_ : Shape := ⟨0, ![]⟩
abbrev S32768x1 : Shape := ⟨2, ![32768, 1]⟩
abbrev S1x48 : Shape := ⟨2, ![1, 48]⟩
abbrev S32768x48 : Shape := ⟨2, ![32768, 48]⟩
abbrev S393216x128 : Shape := ⟨2, ![393216, 128]⟩
abbrev S32768x48x1 : Shape := ⟨3, ![32768, 48, 1]⟩
abbrev S32768x48x128 : Shape := ⟨3, ![32768, 48, 128]⟩
abbrev S1x48x1 : Shape := ⟨3, ![1, 48, 1]⟩
abbrev S32768x48x48 : Shape := ⟨3, ![32768, 48, 48]⟩
abbrev S32768x1x48 : Shape := ⟨3, ![32768, 1, 48]⟩

abbrev nBuf : Space → Nat
  | .hbm => 89
  | .vmem => 0
  | .smem => 0
  | _ => 0

abbrev bufTy : (tb : Table) → Fin (tcTables nBuf tb) → BufTy
  | .hbm, ⟨0, _⟩ => ⟨S256x1536x128, .i32⟩
  | .hbm, ⟨1, _⟩ => ⟨S48x32768, .f32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S32768, .i32⟩
  | .hbm, ⟨6, _⟩ => ⟨S48, .i32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S_, .i32⟩
  | .hbm, ⟨16, _⟩ => ⟨S48, .i32⟩
  | .hbm, ⟨17, _⟩ => ⟨S48, .i32⟩
  | .hbm, ⟨18, _⟩ => ⟨S1x48, .i32⟩
  | .hbm, ⟨19, _⟩ => ⟨S32768x48, .i32⟩
  | .hbm, ⟨20, _⟩ => ⟨S32768x48, .i32⟩
  | .hbm, ⟨21, _⟩ => ⟨S32768x48, .i32⟩
  | .hbm, ⟨22, _⟩ => ⟨S393216x128, .i32⟩
  | .hbm, ⟨23, _⟩ => ⟨S32768x48x1, .i32⟩
  | .hbm, ⟨24, _⟩ => ⟨S32768x48x128, .i32⟩
  | .hbm, ⟨25, _⟩ => ⟨S_, .i32⟩
  | .hbm, ⟨26, _⟩ => ⟨S48, .i32⟩
  | .hbm, ⟨27, _⟩ => ⟨S48, .i32⟩
  | .hbm, ⟨28, _⟩ => ⟨S_, .i32⟩
  | .hbm, ⟨29, _⟩ => ⟨S48, .i32⟩
  | .hbm, ⟨30, _⟩ => ⟨S48, .i32⟩
  | .hbm, ⟨31, _⟩ => ⟨S_, .i32⟩
  | .hbm, ⟨32, _⟩ => ⟨S48, .i32⟩
  | .hbm, ⟨33, _⟩ => ⟨S48, .i32⟩
  | .hbm, ⟨34, _⟩ => ⟨S1x48x1, .i32⟩
  | .hbm, ⟨35, _⟩ => ⟨S32768x48x128, .i32⟩
  | .hbm, ⟨36, _⟩ => ⟨S32768x48x128, .i32⟩
  | .hbm, ⟨37, _⟩ => ⟨S_, .i32⟩
  | .hbm, ⟨38, _⟩ => ⟨S32768x48x128, .i32⟩
  | .hbm, ⟨39, _⟩ => ⟨S32768x48x128, .i32⟩
  | .hbm, ⟨40, _⟩ => ⟨S32768x48, .f32⟩
  | .hbm, ⟨41, _⟩ => ⟨S32768x48x128, .f32⟩
  | .hbm, ⟨42, _⟩ => ⟨S32768x48x128, .f32⟩
  | .hbm, ⟨43, _⟩ => ⟨S_, .f32⟩
  | .hbm, ⟨44, _⟩ => ⟨S32768x48, .f32⟩
  | .hbm, ⟨45, _⟩ => ⟨S32768x48x128, .bf16⟩
  | .hbm, ⟨46, _⟩ => ⟨S32768x48x48, .f32⟩
  | .hbm, ⟨47, _⟩ => ⟨S32768x48, .f32⟩
  | .hbm, ⟨48, _⟩ => ⟨S32768x48, .f32⟩
  | .hbm, ⟨49, _⟩ => ⟨S_, .f32⟩
  | .hbm, ⟨50, _⟩ => ⟨S32768x48, .f32⟩
  | .hbm, ⟨51, _⟩ => ⟨S32768x48, .f32⟩
  | .hbm, ⟨52, _⟩ => ⟨S32768x48x1, .f32⟩
  | .hbm, ⟨53, _⟩ => ⟨S32768x1x48, .f32⟩
  | .hbm, ⟨54, _⟩ => ⟨S32768x48x48, .f32⟩
  | .hbm, ⟨55, _⟩ => ⟨S32768x48x48, .f32⟩
  | .hbm, ⟨56, _⟩ => ⟨S32768x48x48, .f32⟩
  | .hbm, ⟨57, _⟩ => ⟨S32768x48x1, .f32⟩
  | .hbm, ⟨58, _⟩ => ⟨S32768x1x48, .f32⟩
  | .hbm, ⟨59, _⟩ => ⟨S32768x48x48, .f32⟩
  | .hbm, ⟨60, _⟩ => ⟨S32768x48x48, .f32⟩
  | .hbm, ⟨61, _⟩ => ⟨S32768x48x48, .f32⟩
  | .hbm, ⟨62, _⟩ => ⟨S32768x48x48, .f32⟩
  | .hbm, ⟨63, _⟩ => ⟨S32768x48x48, .f32⟩
  | .hbm, ⟨64, _⟩ => ⟨S1x48, .i32⟩
  | .hbm, ⟨65, _⟩ => ⟨S32768x1, .i32⟩
  | .hbm, ⟨66, _⟩ => ⟨S32768x48, .i32⟩
  | .hbm, ⟨67, _⟩ => ⟨S32768x48, .i32⟩
  | .hbm, ⟨68, _⟩ => ⟨S32768x48, .i1⟩
  | .hbm, ⟨69, _⟩ => ⟨S1x48, .i32⟩
  | .hbm, ⟨70, _⟩ => ⟨S32768x1, .i32⟩
  | .hbm, ⟨71, _⟩ => ⟨S32768x48, .i32⟩
  | .hbm, ⟨72, _⟩ => ⟨S32768x48, .i32⟩
  | .hbm, ⟨73, _⟩ => ⟨S32768x48, .i1⟩
  | .hbm, ⟨74, _⟩ => ⟨S32768x48x1, .i1⟩
  | .hbm, ⟨75, _⟩ => ⟨S32768x1x48, .i1⟩
  | .hbm, ⟨76, _⟩ => ⟨S32768x48x48, .i1⟩
  | .hbm, ⟨77, _⟩ => ⟨S32768x48x48, .i1⟩
  | .hbm, ⟨78, _⟩ => ⟨S32768x48x48, .i1⟩
  | .hbm, ⟨79, _⟩ => ⟨S32768x48x1, .i1⟩
  | .hbm, ⟨80, _⟩ => ⟨S32768x1x48, .i1⟩
  | .hbm, ⟨81, _⟩ => ⟨S32768x48x48, .i1⟩
  | .hbm, ⟨82, _⟩ => ⟨S32768x48x48, .i1⟩
  | .hbm, ⟨83, _⟩ => ⟨S32768x48x48, .i1⟩
  | .hbm, ⟨84, _⟩ => ⟨S32768x48x48, .i1⟩
  | .hbm, ⟨85, _⟩ => ⟨S_, .f32⟩
  | .hbm, ⟨86, _⟩ => ⟨S_, .f32⟩
  | .hbm, ⟨87, _⟩ => ⟨S32768x48x48, .f32⟩
  | .hbm, ⟨88, _⟩ => ⟨S32768x48x48, .f32⟩
  | _, _ => ⟨S256x1536x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_7 : Ref sig .tc := ⟨.hbm, 85, rfl⟩
abbrev main_call1_v0 : Ref sig .tc := ⟨.hbm, 86, rfl⟩
abbrev main_call1_v1 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Proof.Bits.Value.lean ====
/-
  What one grid point of the kernel leaves in its output block, written as functions of the input blocks alone:
  the block-diagonal dot of a node pair, the transposed dots, their diagonal, the scaled squared norms and the
  masked distances. Generic in the float instance.
-/
module

public import proofs.«01_k».proof.Proof.Gen.Kernel.Skeleton
public import Idealize.ShloMosaic.Lib.Pointwise

@[expose] public section

set_option maxRecDepth 16384

noncomputable section

namespace Cert.Kernel.Join

open Idealize.ShloMosaic Idealize.ShloMosaic.TcCoe
open Cert.Kernel.Gen

variable {F : FTy → Type} [FloatOps F]

/-- The first loop makes 128 trips. -/
theorem trips1 : k0_t1_loop.trips = 128 := by decide +kernel
/-- The second loop makes 48 trips. -/
theorem trips2 : k0_t2_loop.trips = 48 := by decide +kernel
/-- The third loop makes 48 trips. -/
theorem trips3 : k0_t3_loop.trips = 48 := by decide +kernel

/-- The twelve packed rows of half `h` of the block that start at the word `w` (clamped at the block's end). -/
def rowsAt (x0 : Vec F S2x1536x128 .i32) (h : Fin 2) (w : BitVec 32) : Vec F S1x12x128 .i32 :=
  fun j => x0 (ix3 h (⟨min (w.toNat + (j 1).val) 1535, by omega⟩ : Fin 1536) (j 2))

/-- The dots of node pair `(p, p + 128)`: both nodes' codes side by side against their block diagonal. -/
def pairDot (x0 : Vec F S2x1536x128 .i32) (x4 : Vec F S1x1x256 .i32) (p : Fin 128) : Vec F S1x48x96 .f32 :=
  k0_pay3 (F := F) (rowsAt x0 0 (x4 (ix3 (0 : Fin 1) (0 : Fin 1) (⟨p.val, by omega⟩ : Fin 256))))
    (rowsAt x0 1 (x4 (ix3 (0 : Fin 1) (0 : Fin 1) (⟨p.val + 128, by omega⟩ : Fin 256))))

/-- The dots laid out with the nodes innermost: entry `(i, j, l)` is node `l`'s dot of slots `i` and `j`. -/
def gram (x0 : Vec F S2x1536x128 .i32) (x4 : Vec F S1x1x256 .i32) : Vec F S48x48x256 .f32 :=
  fun j => pairDot x0 x4 (⟨(j 2).val % 128, Nat.mod_lt _ (by decide)⟩ : Fin 128)
    (ix3 (0 : Fin 1) (j 0) (⟨((j 2).val / 128) * 48 + (j 1).val, by
      have h1 : (j 1).val < 48 := (j 1).isLt
      have h2 : (j 2).val < 256 := (j 2).isLt
      omega⟩ : Fin 96))

/-- The dots of each slot with itself. -/
def diag (x0 : Vec F S2x1536x128 .i32) (x4 : Vec F S1x1x256 .i32) : Vec F S48x256 .f32 :=
  fun j => gram x0 x4 (ix3 (j 0) (j 0) (j 1))

/-- Each slot's squared norm times its scale squared. -/
def qv (x0 : Vec F S2x1536x128 .i32) (x1 : Vec F S48x256 .f32) (x4 : Vec F S1x1x256 .i32) : Vec F S48x256 .f32 :=
  k0_pay1 (F := F) (k0_pay111 x1 (diag x0 x4))

/-- Row `i` of a 48 by 256 block. -/
def rowOf (v : Vec F S48x256 .f32) (i : Fin 48) : Vec F S1x256 .f32 := fun j => v (ix2 i (j 1))

/-- Slab `i` of a 48 by 48 by 256 block. -/
def slabOf (v : Vec F S48x48x256 .f32) (i : Fin 48) : Vec F S1x48x256 .f32 := fun j => v (ix3 i (j 1) (j 2))

/-- The masked distances from slot `i` to every slot, for every node of the block. -/
def distSlab (x0 : Vec F S2x1536x128 .i32) (x1 : Vec F S48x256 .f32) (x2 x3 : Vec F S1x256 .i32)
    (x4 : Vec F S1x1x256 .i32) (i : Fin 48) : Vec F S1x48x256 .f32 :=
  k0_pay2 (F := F) x2 x3 ⟨i.val, by rw [trips3]; exact i.isLt⟩ (rowOf x1 i) (rowOf (qv x0 x1 x4) i) (qv x0 x1 x4) x1
    (slabOf (gram x0 x4) i)

/-- The output block. -/
def outV (x0 : Vec F S2x1536x128 .i32) (x1 : Vec F S48x256 .f32) (x2 x3 : Vec F S1x256 .i32)
    (x4 : Vec F S1x1x256 .i32) : Vec F S48x48x256 .f32 :=
  fun j => distSlab x0 x1 x2 x3 x4 (j 0) (ix3 (0 : Fin 1) (j 1) (j 2))

end Cert.Kernel.Join

end
-- ==== Proof.Bits.Pairs.lean ====
/-
  The body's three loops: the words and the rows each node's dot reads, and one invariant per loop (the dots stored pair
  by pair, transposed slot by slot, turned into distances slot by slot) with its step.
-/
module

public import proofs.«01_k».proof.Proof.Bits.Value
public import Idealize.ShloMosaic.Lib.Exec
public import Idealize.ShloMosaic.Lib.Tactic
public import Idealize.ShloMosaic.Lib.WritesUnit
public import Idealize.ShloMosaic.Lib.Pointwise
public import Idealize.ShloMosaic.Lib.WholeRead
public import Idealize.ShloMosaic.Lib.Pipeline.Kit

@[expose] public section

set_option maxRecDepth 16384

noncomputable section

namespace Cert.Kernel.Join

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- Every node's twelve packed rows lie inside its half's block. -/
def InBlock (x4 : Vec F S1x1x256 .i32) : Prop :=
  ∀ n : Fin 256, (show BitVec 32 from x4 (ix3 (0 : Fin 1) (0 : Fin 1) n)).toNat + 12 ≤ 1536

/-- A word whose twelve rows lie inside the block meets the side condition of the first half's load. -/
theorem chk_lo (w : BitVec 32) (h : w.toNat + 12 ≤ 1536) : k0_chk1 w := fun a =>
  match a with
  | ⟨0, _⟩ => show 0 + 1 ≤ 2 by omega
  | ⟨1, _⟩ => h
  | ⟨2, _⟩ => show 0 + 128 ≤ 128 by omega

/-- A word whose twelve rows lie inside the block meets the side condition of the second half's load. -/
theorem chk_hi (w : BitVec 32) (h : w.toNat + 12 ≤ 1536) : k0_chk2 w := fun a =>
  match a with
  | ⟨0, _⟩ => show 1 + 1 ≤ 2 by omega
  | ⟨1, _⟩ => h
  | ⟨2, _⟩ => show 0 + 128 ≤ 128 by omega

section Trips

variable (c : Dev nD) (i : grid0.Coords) (arg1 : Memref sig .tc .vmem S2x1536x128 .i32) (harg1 : arg1.IsWhole) (arg2 : Memref sig .tc .vmem S48x256 .f32) (harg2 : arg2.IsWhole) (arg3 : Memref sig .tc .vmem S1x256 .i32) (harg3 : arg3.IsWhole) (arg4 : Memref sig .tc .vmem S1x256 .i32) (harg4 : arg4.IsWhole) (arg5 : Memref sig .tc .smem S1x1x256 .i32) (harg5 : arg5.IsWhole) (arg6 : Memref sig .tc .vmem S48x48x256 .f32) (harg6 : arg6.IsWhole) (arg7 : Memref sig .tc .vmem S128x48x128 .f32) (harg7 : arg7.IsWhole) (arg8 : Memref sig .tc .vmem S48x256 .f32) (harg8 : arg8.IsWhole)
  (x0 : Vec F S2x1536x128 .i32) (x1 : Vec F S48x256 .f32) (x2 x3 : Vec F S1x256 .i32) (x4 : Vec F S1x1x256 .i32)

/-- The word a trip reads first is node `k`'s offset. -/
theorem word_lo (k : Fin k0_t1_loop.trips) (hk : k.val < 256) :
    arg5.view.readAt (Elt F) (Rect.unit (s := S1x1x256) (k0_off1 k) S1x1x1.size (k0_off1_inb k)).toLoadRect (harg5.unread x4) (Shape.Idx.first (numel1_S1x1x1.symm ▸ Nat.one_pos))
      = x4 (ix3 (0 : Fin 1) (0 : Fin 1) (⟨k.val, hk⟩ : Fin 256)) := by
  rw [Memref.IsWhole.readAt_unread]
  congr 1
  funext a
  apply Fin.ext
  show k0_off1 k a + 1 * _ = _
  rw [show k0_off1 k a = _ from congrFun (k0_off1_eq k) a]
  match a with
  | ⟨0, _⟩ => rfl
  | ⟨1, _⟩ => rfl
  | ⟨2, _⟩ => rfl

/-- The word a trip reads second is the offset of node `k + 128`. -/
theorem word_hi (k : Fin k0_t1_loop.trips) (hk : k.val + 128 < 256) :
    arg5.view.readAt (Elt F) (Rect.unit (s := S1x1x256) (k0_off3 k) S1x1x1.size (k0_off3_inb k)).toLoadRect (harg5.unread x4) (Shape.Idx.first (numel1_S1x1x1.symm ▸ Nat.one_pos))
      = x4 (ix3 (0 : Fin 1) (0 : Fin 1) (⟨k.val + 128, hk⟩ : Fin 256)) := by
  rw [Memref.IsWhole.readAt_unread]
  congr 1
  funext a
  apply Fin.ext
  show k0_off3 k a + 1 * _ = _
  rw [show k0_off3 k a = _ from congrFun (k0_off3_eq k) a]
  match a with
  | ⟨0, _⟩ => rfl
  | ⟨1, _⟩ => rfl
  | ⟨2, _⟩ => rfl

/-- The rows a trip loads from the first half, at a word in range. -/
theorem rows_lo (w : BitVec 32) (h : k0_chk1 w) :
    arg1.view.readAt (Elt F) (Rect.unit (s := S2x1536x128) (k0_off2 w) S1x12x128.size (k0_off2_inb w h)).toLoadRect (harg1.unread x0)
      = rowsAt x0 0 w := by
  funext j
  rw [Memref.IsWhole.readAt_unread]
  unfold rowsAt
  congr 1
  funext a
  apply Fin.ext
  have hw : w.toNat + 12 ≤ 1536 := h (1 : Fin 3)
  have hj : (j 1).val < 12 := (j 1).isLt
  have h0 : (j 0).val < 1 := (j 0).isLt
  match a with
  | ⟨0, _⟩ => show 0 + 1 * (j 0).val = 0; omega
  | ⟨1, _⟩ => show w.toNat + 1 * (j 1).val = min (w.toNat + (j 1).val) 1535; omega
  | ⟨2, _⟩ => show 0 + 1 * (j 2).val = (j 2).val; omega

/-- The rows a trip loads from the second half, at a word in range. -/
theorem rows_hi (w : BitVec 32) (h : k0_chk2 w) :
    arg1.view.readAt (Elt F) (Rect.unit (s := S2x1536x128) (k0_off4 w) S1x12x128.size (k0_off4_inb w h)).toLoadRect (harg1.unread x0)
      = rowsAt x0 1 w := by
  funext j
  rw [Memref.IsWhole.readAt_unread]
  unfold rowsAt
  congr 1
  funext a
  apply Fin.ext
  have hw : w.toNat + 12 ≤ 1536 := h (1 : Fin 3)
  have hj : (j 1).val < 12 := (j 1).isLt
  have h0 : (j 0).val < 1 := (j 0).isLt
  match a with
  | ⟨0, _⟩ => show 1 + 1 * (j 0).val = 1; omega
  | ⟨1, _⟩ => show w.toNat + 1 * (j 1).val = min (w.toNat + (j 1).val) 1535; omega
  | ⟨2, _⟩ => show 0 + 1 * (j 2).val = (j 2).val; omega

/-- What the scratch of dots holds before trip `k` of the first loop: the dots of the node pairs before `k`. -/
def PairsUpTo (x0 : Vec F S2x1536x128 .i32) (x4 : Vec F S1x1x256 .i32) (k : ℕ) (v : Vec F S128x48x128 .f32) : Prop :=
  ∀ (p : Fin 128) (a : Fin 48) (l : Fin 96), p.val < k →
    v (ix3 p a (⟨l.val, by omega⟩ : Fin 128)) = pairDot x0 x4 p (ix3 (0 : Fin 1) a l)

/-- The first loop's invariant. -/
def inv1 (k : ℕ) (_ : Unit) : sProp 𝕄 :=
  iprop((arg1.view.loc (c : Thread nD τ) ↦[arg1.view.set]{fullShare} harg1.unread x0) ∗ (arg5.view.loc (c : Thread nD τ) ↦[arg5.view.set]{fullShare} harg5.unread x4)
    ∗ (∃ f, (arg7.view.loc (c : Thread nD τ) ↦[arg7.view.set]{fullShare} f) ∗ ⌜PairsUpTo x0 x4 k (arg7.view.read (Elt F) f)⌝))

/-- One trip of the first loop adds its pair's dots. -/
theorem step1 (hin : InBlock x4) (E : Set ℕ) (k : Fin k0_t1_loop.trips) (u : Unit) :
    inv1 (F := F) c arg1 harg1 arg5 harg5 arg7 x0 x4 k.val u
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 k u)
          (fun u' => inv1 (F := F) c arg1 harg1 arg5 harg5 arg7 x0 x4 (k.val + 1) u') := by
  have hk : k.val < 128 := Nat.lt_of_lt_of_le k.isLt k0_t1_abs.2.1
  have e1 := word_lo (F := F) arg5 harg5 x4 k (by omega)
  have e2 := word_hi (F := F) arg5 harg5 x4 k (by omega)
  have c1 := chk_lo _ (hin ⟨k.val, by omega⟩)
  have c2 := chk_hi _ (hin ⟨k.val + 128, by omega⟩)
  rw [show x4 _ = _ from e1.symm] at c1
  rw [show x4 _ = _ from e2.symm] at c2
  unfold k0_t1_body inv1
  iintro ⟨H1, H5, ⟨%f, H7, %hf⟩⟩
  sl_exec
  sl_step
  isplitl [H1]; · iexact H1
  isplitl [H5]; · iexact H5
  iexists _
  isplitl [H7]; · iexact H7
  ipureintro
  intro p a l hp
  rcases Nat.lt_or_eq_of_le (Nat.lt_succ_iff.mp hp) with h | h
  · rw [View.read_writes_cons_unit_of_not_mem (heq := k0_off5_eq k) (a := (0 : Fin 3)) (ha := Or.inl h)]
    exact hf p a l h
  · rw [View.read_writes_cons_unit_of_mem (heq := k0_off5_eq k) (x := ix3 (0 : Fin 1) a l) (hx := by
      intro b
      match b with
      | ⟨0, _⟩ => exact h
      | ⟨1, _⟩ => exact (Nat.zero_add _).symm
      | ⟨2, _⟩ => exact (Nat.zero_add _).symm)]
    obtain rfl : p = ⟨k.val, hk⟩ := Fin.ext h
    refine (congrFun (congrArg₂ (k0_pay3 (F := F)) (rows_lo (F := F) arg1 harg1 x0 _ c1) (rows_hi (F := F) arg1 harg1 x0 _ c2)) _).trans ?_
    exact congrFun (congrArg₂ (fun u v => k0_pay3 (F := F) (rowsAt x0 0 u) (rowsAt x0 1 v)) e1 e2) _

/-- The first transposed half at an entry. -/
theorem pay5_at (v : Vec F S128x1x128 .f32) (j : Fin 48) (l : Fin 128) :
    k0_pay5 (F := F) v (ix3 (0 : Fin 1) j l) = v (ix3 l (0 : Fin 1) (⟨j.val, by omega⟩ : Fin 128)) := by
  pointwise [k0_pay5, k0_pay4]

/-- The second transposed half at an entry. -/
theorem pay6_at (v : Vec F S128x1x128 .f32) (j : Fin 48) (l : Fin 128) :
    k0_pay6 (F := F) v (ix3 (0 : Fin 1) j l) = v (ix3 l (0 : Fin 1) (⟨48 + j.val, by omega⟩ : Fin 128)) := by
  pointwise [k0_pay6, k0_pay4]

/-- What the output block holds before trip `k` of the second loop: the transposed dots of the slots before `k`. -/
def GramUpTo (x0 : Vec F S2x1536x128 .i32) (x4 : Vec F S1x1x256 .i32) (k : ℕ) (v : Vec F S48x48x256 .f32) : Prop :=
  ∀ (a b : Fin 48) (l : Fin 256), a.val < k → v (ix3 a b l) = gram x0 x4 (ix3 a b l)

/-- The second loop's invariant. -/
def inv2 (f7 : BufTy.Contents (Elt F) arg7.view.ty) (k : ℕ) (_ : Unit) : sProp 𝕄 :=
  iprop((arg7.view.loc (c : Thread nD τ) ↦[arg7.view.set]{fullShare} f7)
    ∗ (∃ f, (arg6.view.loc (c : Thread nD τ) ↦[arg6.view.set]{fullShare} f) ∗ ⌜GramUpTo x0 x4 k (arg6.view.read (Elt F) f)⌝))

/-- One trip of the second loop adds its slot's transposed dots. -/
theorem step2 (f7 : BufTy.Contents (Elt F) arg7.view.ty) (h7 : PairsUpTo x0 x4 128 (arg7.view.read (Elt F) f7))
    (E : Set ℕ) (k : Fin k0_t2_loop.trips) (u : Unit) :
    inv2 (F := F) c arg6 arg7 x0 x4 f7 k.val u
      ⊢ wp frame (wpE (defs₀ (F := F)) Variants.none (c : Thread nD τ) none) E
          (k0_t2_body (F := F) i arg1 harg1 arg2 harg2 arg3 harg3 arg4 harg4 arg5 harg5 arg6 harg6 arg7 harg7 arg8 harg8 k u)
          (fun u' => inv2 (F := F) c arg6 arg7 x0 x4 f7 (k.val + 1) u') := by
  have hk : k.val < 48 := Nat.lt_of_lt_of_le k.isLt k0_t2_abs.2.1
  -- the loaded column of the scratch is the pairs' dots of slot `k`
  have hcol : ∀ (l : Fin 128) (r : Fin 96),
      arg7.view.readAt (Elt F) (Rect.unit (s := S128x48x128) (k0_off6 k) S128x1x128.size (k0_off6_inb k)).toLoadRect f7
          (ix3 l (0 : Fin 1) (⟨r.val, by omega⟩ : Fin 128))
        = pairDot x0 x4 l (ix3 (0 : Fin 1) (⟨k.val, hk⟩ : Fin 48) r) := by
    intro l r
    rw [← h7 l ⟨k.val, hk⟩ r l.isLt, View.readAt_apply]
    congr 1
    funext a
    apply Fin.ext
    show k0_off6 k a + 1 * _ = _
    rw [show k0_off6 k a = _ from congrFun (k0_off6_eq k) a]
    match a with
    | ⟨0, _⟩ => show 0 + 1 * l.val = l.val; omega
    | ⟨1, _⟩ => rfl
    | ⟨2, _⟩ => show 0 + 1 * r.val = r.val; omega
  unfold k0_t2_body inv2
  iintro ⟨H7, ⟨%f, H6, %hf⟩⟩
  sl_exec
  sl_step
  isplitl [H7]; · iexact H7
  iexists _
  isplitl [H6]; · iexact H6
  ipureintro
  intro a b l hp
  rcases Nat.lt_or_eq_of_le (Nat.lt_succ_iff.mp hp) with h | h
  · rw [View.read_writes_cons_unit_of_not_mem (heq := k0_off8_eq k) (a := (0 : Fin 3)) (ha := Or.inl h),
      View.read_writes_cons_unit_of_not_mem (heq := k0_off7_eq k) (a := (0 : Fin 3)) (ha := Or.inl h)]
    exact hf a b l h
  · obtain rfl : a = ⟨k.val, hk⟩ := Fin.ext h
    by_cases hl : l.val < 128
    · rw [View.read_writes_cons_unit_of_not_mem (heq := k0_off8_eq k) (a := (2 : Fin 3)) (ha := Or.inl hl),
        View.read_writes_cons_unit_of_mem (heq := k0_off7_eq k) (x := ix3 (0 : Fin 1) b (⟨l.val, hl⟩ : Fin 128)) (hx := by
          intro b
          match b with
          | ⟨0, _⟩ => rfl
          | ⟨1, _⟩ => exact (Nat.zero_add _).symm
          | ⟨2, _⟩ => exact (Nat.zero_add _).symm),
        pay5_at]
      refine (hcol ⟨l.val, hl⟩ ⟨b.val, by omega⟩).trans ?_
      unfold gram
      congr 1
      · congr 1; exact (Nat.mod_eq_of_lt hl).symm
      · congr 1; apply Fin.ext; show b.val = l.val / 128 * 48 + b.val; omega
    · rw [View.read_writes_cons_unit_of_mem (heq := k0_off8_eq k) (x := ix3 (0 : Fin 1) b (⟨l.val - 128, by omega⟩ : Fin 128)) (hx := by
          intro b
          match b with
          | ⟨0, _⟩ => rfl
          | ⟨1, _⟩ => exact (Nat.zero_add _).symm
          | ⟨2, _⟩ => show l.val = 128 + (l.val - 128); omega),
        pay6_at]
      refine (hcol ⟨l.val - 128, by omega⟩ ⟨48 + b.val, by omega⟩).trans ?_
      unfold gram
      congr 1
      · congr 1; show l.val - 128 = l.val % 128; omega
      · congr 1; apply Fin.ext; show 48 + b.val = l.val / 128 * 48 + b.val; omega

/-- What the output block holds before trip `k` of the third loop: distances in the slabs before `k`, dots in the rest. -/
def DistUpTo (x0 : Vec F S2x1536x128 .i32) (x1 : Vec F S48x256 .f32) (x2 x3 : Vec F S1x256 .i32) (x4 : Vec F S1x1x256 .i32)
    (k : ℕ) (v : Vec F S48x48x256 .f32) : Prop :=
  ∀ (a b : Fin 48) (l : Fin 256), v (ix3 a b l) = if a.val < k then outV x0 x1 x2 x3 x4 (ix3 a b l) else gram x0 x4 (ix3 a b l)

/-- The third loop's invariant. -/
def inv3 (f8 : BufTy.Contents (Elt F) arg8.view.ty) (k : ℕ) (_ : Unit) : sProp 𝕄 :=
  iprop((arg2.view.loc (c : Thread nD τ) ↦[arg2.view.set]{fullShare} harg2.unread x1)
    ∗ (arg8.view.loc (c : Thread nD τ) ↦[arg8.view.set]{fullShare} f8)
    ∗ (∃ f, (arg6.view.loc (c : Thread nD τ) ↦[arg6.view.set]{fullShare} f) ∗ ⌜DistUpTo x0 x1 x2 x3 x4 k (arg6.view.read (Elt F) f)⌝))

/-- A load of the whole 48 by 256 block reads it as it is. -/
theorem whole_read (v : View sig .tc .vmem S48x256 .f32) (f : v.ty.Contents (Elt F)) :
    v.readAt (Elt F) (Rect.unit (s := S48x256) ![0, 0] S48x256.size inb_S48x256_S48x256_0_0).toLoadRect f = v.read (Elt F) f := by
  funext j
  rw [View.readAt_apply]
  congr 1
  funext a
  apply Fin.ext
  match a with
  | ⟨0, _⟩ => show 0 + 1 * (j 0).val = (j 0).val; omega
  | ⟨1, _⟩ => show 0 + 1 * (j 1).val = (j 1).val; omega

/-- A trip's row load of a 48 by 256 block reads row `k`. -/
theorem row_read (v : View sig .tc .vmem S48x256 .f32) (f : v.ty.Contents (Elt F)) (k : Fin k0_t3_loop.trips) (hk : k.val < 48) :
    v.readAt (Elt F) (Rect.unit (s := S48x256) (k0_off9 k) S1x256.size (k0_off9_inb k)).toLoadRect f
      = rowOf (v.read (Elt F) f) ⟨k.val, hk⟩ := by
  funext j
  rw [View.readAt_apply]
  unfold rowOf
  congr 1
  funext a
  apply Fin.ext
  show k0_off9 k a + 1 * _ = _
  rw [show k0_off9 k a = _ from congrFun (k0_off9_eq k) a]
  have h0 : (j 0).val < 1 := (j 0).isLt
  match a with
  | ⟨0, _⟩ => show k.val + 1 * (j 0).val = k.val; omega
  | ⟨1, _⟩ => show 0 + 1 * (j 1).val = (j 1).val; omega

/-- One trip of the third loop turns its slab of dots into distances. -/
theorem step3 (v2 v3 : Vec F S1x256 .i32) (e2 : v2 = x2) (e3 : v3 = x3)
    (f8 : BufTy.Contents (Elt F) arg8.view.ty) (h8 : arg8.view.read (Elt F) f8 = qv x0 x1 x4)
    (E : Set ℕ) (k : Fin k0_t3_loop.trips) (u : Unit) :
    inv3 (F := F) c arg2 harg2 arg6 arg8 x0 x1 x2 x3 x4 f8 k.val u
      ⊢ wp frame (wpE (defs₀ (F := F)) Variants.none (c : Thread nD τ) none) E
          (k0_t3_body (F := F) i arg1 harg1 arg2 harg2 arg3 harg3 arg4 harg4 arg5 harg5 arg6 harg6 arg7 harg7 arg8 harg8 v2 v3 k u)
          (fun u' => inv3 (F := F) c arg2 harg2 arg6 arg8 x0 x1 x2 x3 x4 f8 (k.val + 1) u') := by
  subst e2 e3
  have hk : k.val < 48 := Nat.lt_of_lt_of_le k.isLt k0_t3_abs.2.1
  unfold k0_t3_body inv3
  iintro ⟨H2, H8, ⟨%f, H6, %hf⟩⟩
  -- the loaded slab still holds dots
  have hslab : arg6.view.readAt (Elt F) (Rect.unit (s := S48x48x256) (k0_off10 k) S1x48x256.size (k0_off10_inb k)).toLoadRect f
      = slabOf (gram x0 x4) ⟨k.val, hk⟩ := by
    funext j
    have h0 : (j 0).val < 1 := (j 0).isLt
    have := hf ⟨k.val, hk⟩ (j 1) (j 2)
    rw [if_neg (Nat.lt_irrefl _)] at this
    unfold slabOf
    rw [← this, View.readAt_apply]
    congr 1
    funext a
    apply Fin.ext
    show k0_off10 k a + 1 * _ = _
    rw [show k0_off10 k a = _ from congrFun (k0_off10_eq k) a]
    match a with
    | ⟨0, _⟩ => show k.val + 1 * (j 0).val = k.val; omega
    | ⟨1, _⟩ => show 0 + 1 * (j 1).val = (j 1).val; omega
    | ⟨2, _⟩ => show 0 + 1 * (j 2).val = (j 2).val; omega
  sl_exec
  sl_step
  isplitl [H2]; · iexact H2
  isplitl [H8]; · iexact H8
  iexists _
  isplitl [H6]; · iexact H6
  ipureintro
  intro a b l
  by_cases h : a.val = k.val
  · rw [View.read_writes_cons_unit_of_mem (heq := k0_off10_eq k) (x := ix3 (0 : Fin 1) b l) (hx := by
      intro b
      match b with
      | ⟨0, _⟩ => exact h
      | ⟨1, _⟩ => exact (Nat.zero_add _).symm
      | ⟨2, _⟩ => exact (Nat.zero_add _).symm), if_pos (by omega)]
    obtain rfl : a = ⟨k.val, hk⟩ := Fin.ext h
    unfold outV distSlab
    rw [whole_read, whole_read, row_read (hk := hk), row_read (hk := hk), h8, harg2.read_unread]
    rfl
  · rw [View.read_writes_cons_unit_of_not_mem (heq := k0_off10_eq k) (a := (0 : Fin 3)) (ha := by
      show a.val < k.val ∨ k.val + 1 ≤ a.val; omega)]
    refine (hf a b l).trans ?_
    by_cases h' : a.val < k.val
    · rw [if_pos h', if_pos (by omega)]
    · rw [if_neg h', if_neg (by omega)]

end Trips
end Cert.Kernel.Join
-- ==== Proof.Bits.Run.lean ====
/-
  The whole body run: its loops by their invariants, the ninety-six copies of the diagonal as one list of pieces, and the
  output block left at `outV` of the input blocks.
-/
module

public import proofs.«01_k».proof.Proof.Bits.Pairs
public import Idealize.ShloMosaic.Lib.Exec
public import Idealize.ShloMosaic.Lib.Tactic
public import Idealize.ShloMosaic.Lib.WritesUnit
public import Idealize.ShloMosaic.Lib.Pointwise
public import Idealize.ShloMosaic.Lib.WholeRead
public import Idealize.ShloMosaic.Lib.Pipeline.Kit

@[expose] public section

set_option maxRecDepth 16384

noncomputable section

namespace Cert.Kernel.Join

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

section Run

variable (c : Dev nD) (i : grid0.Coords) (arg1 : Memref sig .tc .vmem S2x1536x128 .i32) (harg1 : arg1.IsWhole) (arg2 : Memref sig .tc .vmem S48x256 .f32) (harg2 : arg2.IsWhole) (arg3 : Memref sig .tc .vmem S1x256 .i32) (harg3 : arg3.IsWhole) (arg4 : Memref sig .tc .vmem S1x256 .i32) (harg4 : arg4.IsWhole) (arg5 : Memref sig .tc .smem S1x1x256 .i32) (harg5 : arg5.IsWhole) (arg6 : Memref sig .tc .vmem S48x48x256 .f32) (harg6 : arg6.IsWhole) (arg7 : Memref sig .tc .vmem S128x48x128 .f32) (harg7 : arg7.IsWhole) (arg8 : Memref sig .tc .vmem S48x256 .f32) (harg8 : arg8.IsWhole)
  (x0 : Vec F S2x1536x128 .i32) (x1 : Vec F S48x256 .f32) (x2 x3 : Vec F S1x256 .i32) (x4 : Vec F S1x1x256 .i32)

/-- The `n`-th diagonal copy: slot `n % 48` of the nodes' half `n / 48`, from the output block's diagonal into the scratch. -/
def copyPiece (g6 : BufTy.Contents (Elt F) arg6.view.ty) (n : Fin 96) : View.Piece (Elt F) S48x256 .f32 :=
  ⟨Rect.unit (s := S48x256) ![n.val % 48, 128 * (n.val / 48)] S1x128.size (by
      intro a
      match a with
      | ⟨0, _⟩ => show n.val % 48 + 1 ≤ 48; omega
      | ⟨1, _⟩ => show 128 * (n.val / 48) + 128 ≤ 256; omega),
    k0_pay7 (F := F) (arg6.view.readAt (Elt F) (Rect.unit (s := S48x48x256) ![n.val % 48, n.val % 48, 128 * (n.val / 48)] S1x1x128.size (by
      intro a
      match a with
      | ⟨0, _⟩ => show n.val % 48 + 1 ≤ 48; omega
      | ⟨1, _⟩ => show n.val % 48 + 1 ≤ 48; omega
      | ⟨2, _⟩ => show 128 * (n.val / 48) + 128 ≤ 256; omega)).toLoadRect g6)⟩

/-- A copied row at an entry. -/
theorem pay7_at (v : Vec F S1x1x128 .f32) (l : Fin 128) :
    k0_pay7 (F := F) v (ix2 (0 : Fin 1) l) = v (ix3 (0 : Fin 1) (0 : Fin 1) l) := by
  pointwise [k0_pay7]

/-- Each copy carries the diagonal of the dots. -/
theorem copyPiece_at (g6 : BufTy.Contents (Elt F) arg6.view.ty) (h6 : GramUpTo x0 x4 48 (arg6.view.read (Elt F) g6))
    (n : Fin 96) (x : (copyPiece arg6 g6 n).1.shape.Idx) :
    (copyPiece arg6 g6 n).2 x = diag x0 x4 ((copyPiece arg6 g6 n).1.emb x) := by
  obtain ⟨l, rfl⟩ : ∃ l : Fin 128, x = ix2 (0 : Fin 1) l := ⟨x 1, by
    funext a
    match a with
    | ⟨0, _⟩ => exact Fin.ext (by have h : (x 0).val < 1 := (x 0).isLt; show (x 0).val = 0; omega)
    | ⟨1, _⟩ => rfl⟩
  have hn : n.val % 48 < 48 := Nat.mod_lt _ (by decide)
  have hl : 128 * (n.val / 48) + l.val < 256 := by omega
  show k0_pay7 (F := F) (arg6.view.readAt (Elt F) (Rect.unit (s := S48x48x256) ![n.val % 48, n.val % 48, 128 * (n.val / 48)] S1x1x128.size _).toLoadRect g6) (ix2 (0 : Fin 1) l) = _
  rw [pay7_at, View.readAt_apply]
  refine Eq.trans ?_ ((h6 ⟨n.val % 48, hn⟩ ⟨n.val % 48, hn⟩ ⟨128 * (n.val / 48) + l.val, hl⟩ hn).trans ?_)
  · congr 1
    funext a
    apply Fin.ext
    match a with
    | ⟨0, _⟩ => rfl
    | ⟨1, _⟩ => rfl
    | ⟨2, _⟩ => show 128 * (n.val / 48) + 1 * l.val = 128 * (n.val / 48) + l.val; omega
  · unfold diag
    congr 1
    funext a
    apply Fin.ext
    match a with
    | ⟨0, _⟩ => rfl
    | ⟨1, _⟩ => rfl
    | ⟨2, _⟩ => show 128 * (n.val / 48) + l.val = 128 * (n.val / 48) + 1 * l.val; omega

/-- After all the copies the scratch holds the diagonal, whatever it held before. -/
theorem copied_read (g6 : BufTy.Contents (Elt F) arg6.view.ty) (h6 : GramUpTo x0 x4 48 (arg6.view.read (Elt F) g6))
    (f : BufTy.Contents (Elt F) arg8.view.ty) :
    arg8.view.read (Elt F) (arg8.view.writes (Elt F) f ((List.finRange 96).reverse.map (copyPiece arg6 g6))) = diag x0 x4 := by
  funext y
  refine View.read_writes_apply_of_pieces _ _ (diag x0 x4) _ ?_ y ?_
  · intro p hp x
    obtain ⟨n, -, rfl⟩ := List.mem_map.1 hp
    exact copyPiece_at arg6 x0 x4 g6 h6 n x
  · have h0 : (y 0).val < 48 := (y 0).isLt
    have h1 : (y 1).val < 256 := (y 1).isLt
    refine ⟨_, List.mem_map.2 ⟨⟨(y 1).val / 128 * 48 + (y 0).val, by omega⟩, List.mem_reverse.2 (List.mem_finRange _), rfl⟩, ?_⟩
    unfold copyPiece
    rw [Rect.mem_set_unit]
    intro a
    match a with
    | ⟨0, _⟩ => show ((y 1).val / 128 * 48 + (y 0).val) % 48 ≤ (y 0).val ∧ (y 0).val < ((y 1).val / 128 * 48 + (y 0).val) % 48 + 1; omega
    | ⟨1, _⟩ => show 128 * (((y 1).val / 128 * 48 + (y 0).val) / 48) ≤ (y 1).val ∧ (y 1).val < 128 * (((y 1).val / 128 * 48 + (y 0).val) / 48) + 128; omega

/-- A load of a whole one by 256 block reads it as it is. -/
theorem whole_read1 (v : View sig .tc .vmem S1x256 .i32) (f : v.ty.Contents (Elt F)) :
    v.readAt (Elt F) (Rect.unit (s := S1x256) ![0, 0] S1x256.size inb_S1x256_S1x256_0_0).toLoadRect f = v.read (Elt F) f := by
  funext j
  rw [View.readAt_apply]
  congr 1
  funext a
  apply Fin.ext
  match a with
  | ⟨0, _⟩ => show 0 + 1 * (j 0).val = (j 0).val; omega
  | ⟨1, _⟩ => show 0 + 1 * (j 1).val = (j 1).val; omega

set_option maxHeartbeats 0 in
/-- The body runs from the input blocks, with the output's buffer and both scratch buffers at any contents, and leaves the
    inputs as they were and the output's buffer at `outV`. -/
theorem body_run (hin : InBlock x4) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 x3 x4) ∗ (∃ d, owns (c : Thread nD τ) arg7 fullShare d) ∗ (∃ d, owns (c : Thread nD τ) arg8 fullShare d)) -∗ K ⟨⟩))
          ⊢ wp frame (wpE (defs₀ (F := F)) Variants.none c none) E (cc0_tc_body i arg1 harg1 arg2 harg2 arg3 harg3 arg4 harg4 arg5 harg5 arg6 harg6 arg7 harg7 arg8 harg8) K := by
  rw [cc0_tc_body_eq_skeleton]; unfold cc0_tc_body_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  simp only [bind_assoc]
  sl_for (inv1 (F := F) c arg1 harg1 arg5 harg5 arg7 x0 x4) $$ [H0 H4 HS0]
  case region => exact fun k u => step1 (F := F) c i arg1 harg1 arg2 harg2 arg3 harg3 arg4 harg4 arg5 harg5 arg6 harg6 arg7 harg7 arg8 harg8 x0 x4 hin E k u
  · unfold inv1
    isplitl [H0]; · iexact H0
    isplitl [H4]; · iexact H4
    iexists _; isplitl [HS0]; · iexact HS0
    ipureintro; intro p a l h; exact absurd h (Nat.not_lt_zero _)
  unfold inv1
  iintro %u1 ⟨H0, H4, ⟨%g7, HS0, %h7⟩⟩
  rw [show Scf.trips k0_t1_loop.lb k0_t1_loop.ub k0_t1_loop.st = 128 from trips1] at h7
  sl_for (inv2 (F := F) c arg6 arg7 x0 x4 g7) $$ [HS0 H5]
  case region => exact fun k u => step2 (F := F) c i arg1 harg1 arg2 harg2 arg3 harg3 arg4 harg4 arg5 harg5 arg6 harg6 arg7 harg7 arg8 harg8 x0 x4 g7 h7 E k u
  · unfold inv2
    isplitl [HS0]; · iexact HS0
    iexists _; isplitl [H5]; · iexact H5
    ipureintro; intro p a l h; exact absurd h (Nat.not_lt_zero _)
  unfold inv2
  iintro %u2 ⟨HS0, ⟨%g6, H5, %h6⟩⟩
  rw [show Scf.trips k0_t2_loop.lb k0_t2_loop.ub k0_t2_loop.st = 48 from trips2] at h6
  sl_exec_parts
  have h96 : body_run.sl.HS1_96 c arg6 g6 = (List.finRange 96).reverse.map (copyPiece (F := F) arg6 g6) := rfl
  have h8 : arg8.view.read (Elt F) (arg8.view.writes (Elt F) arg8.view.junk (body_run.sl.HS1_97 c arg2 harg2 arg6 arg8 x1 g6)) = qv x0 x1 x4 := by
    unfold body_run.sl.HS1_97
    funext y
    rw [View.read_writes_cons_unit_of_mem (heq := rfl) (x := y) (hx := fun a => by
      match a with
      | ⟨0, _⟩ => exact (Nat.zero_add _).symm
      | ⟨1, _⟩ => exact (Nat.zero_add _).symm)]
    unfold body_run.sl.r_1 body_run.sl.v484
    unfold View.readCov
    rw [h96, whole_read, whole_read, copied_read (F := F) arg6 arg8 x0 x4 g6 h6, hf1]
    rfl
  sl_for (inv3 (F := F) c arg2 harg2 arg6 arg8 x0 x1 x2 x3 x4 _) $$ [H1 HS1 H5]
  case region => exact fun k u => step3 (F := F) c i arg1 harg1 arg2 harg2 arg3 harg3 arg4 harg4 arg5 harg5 arg6 harg6 arg7 harg7 arg8 harg8 x0 x1 x2 x3 x4 _ _ ((whole_read1 _ _).trans hf2) ((whole_read1 _ _).trans hf3) _ h8 E k u
  · unfold inv3
    isplitl [H1]; · iexact H1
    isplitl [HS1]; · iexact HS1
    iexists _; isplitl [H5]; · iexact H5
    ipureintro; intro p a l; rw [if_neg (Nat.not_lt_zero _)]; exact h6 p a l p.isLt
  unfold inv3
  iintro %u3 ⟨H1, HS1, ⟨%g, H5, %hg⟩⟩
  rw [show Scf.trips k0_t3_loop.lb k0_t3_loop.ub k0_t3_loop.st = 48 from trips3] at hg
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro
      funext j
      rw [eq_ix3 j]
      exact (hg (j 0) (j 1) (j 2)).trans (if_pos (j 0).isLt)
    · iexact H5
  isplitl [HS0]
  · iexists _, g7; isplitr
    · ipureintro; rfl
    · iexact HS0
  · iexists _, (arg8.view.writes (Elt F) arg8.view.junk (body_run.sl.HS1_97 c arg2 harg2 arg6 arg8 x1 g6)); isplitr
    · ipureintro; rfl
    · iexact HS1

end Run
end Cert.Kernel.Join
-- ==== Proof.Bits.Whole.lean ====
/-
  The whole launch run: the body's run at every grid point, the pipeline's proof data (each output block at `outV` of the
  point's input blocks), the run of `main`, and the frame claim, all under `Hyps`: every offset word leaves its node's
  rows inside the block.
-/
module

public import proofs.«01_k».proof.Proof.Bits.Run
public import proofs.«01_k».proof.Proof.Gen.Kernel.Frame
public import Idealize.ShloMosaic.Lib.Claim

@[expose] public section

set_option maxRecDepth 16384

noncomputable section

namespace Cert.Kernel.Join

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every offset word of every point's block leaves its node's rows inside the block. -/
def Hyps : Prop := ∀ (c : Dev nD) (t : Fin cfg0.N), InBlock (F := F) (iblk m c 4 t)

/-- The staging memref of the packed codes at point `t`. -/
abbrev ms0_0 (t : Fin cfg0.N) : Memref sig .tc .vmem S2x1536x128 .i32 := win0_0.stage (cfg0.slots t 0)
/-- It is a whole buffer. -/
abbrev hs0_0 (t : Fin cfg0.N) : (ms0_0 t).IsWhole := hstage0_0 ((cfg0.slots t 0).cast nbuf0_0)
/-- The staging memref of the scales at point `t`. -/
abbrev ms0_1 (t : Fin cfg0.N) : Memref sig .tc .vmem S48x256 .f32 := win0_1.stage (cfg0.slots t 1)
/-- It is a whole buffer. -/
abbrev hs0_1 (t : Fin cfg0.N) : (ms0_1 t).IsWhole := hstage0_1 ((cfg0.slots t 1).cast nbuf0_1)
/-- The staging memref of the counts at point `t`. -/
abbrev ms0_2 (t : Fin cfg0.N) : Memref sig .tc .vmem S1x256 .i32 := win0_2.stage (cfg0.slots t 2)
/-- It is a whole buffer. -/
abbrev hs0_2 (t : Fin cfg0.N) : (ms0_2 t).IsWhole := hstage0_2 ((cfg0.slots t 2).cast nbuf0_2)
/-- The staging memref of the new counts at point `t`. -/
abbrev ms0_3 (t : Fin cfg0.N) : Memref sig .tc .vmem S1x256 .i32 := win0_3.stage (cfg0.slots t 3)
/-- It is a whole buffer. -/
abbrev hs0_3 (t : Fin cfg0.N) : (ms0_3 t).IsWhole := hstage0_3 ((cfg0.slots t 3).cast nbuf0_3)
/-- The staging memref of the offsets at point `t`. -/
abbrev ms0_4 (t : Fin cfg0.N) : Memref sig .tc .smem S1x1x256 .i32 := win0_4.stage (cfg0.slots t 4)
/-- It is a whole buffer. -/
abbrev hs0_4 (t : Fin cfg0.N) : (ms0_4 t).IsWhole := hstage0_4 ((cfg0.slots t 4).cast nbuf0_4)
/-- The staging memref of the output at point `t`. -/
abbrev ms0_5 (t : Fin cfg0.N) : Memref sig .tc .vmem S48x48x256 .f32 := win0_5.stage (cfg0.slots t 5)
/-- It is a whole buffer. -/
abbrev hs0_5 (t : Fin cfg0.N) : (ms0_5 t).IsWhole := hstage0_5 ((cfg0.slots t 5).cast nbuf0_5)

/-- The kernel's scratch for the pairs' dots, a whole buffer. -/
abbrev scM0_0 : Memref sig .tc .vmem S128x48x128 .f32 := Memref.whole cc0_scratch0
/-- The kernel's scratch for the scaled squared norms, a whole buffer. -/
abbrev scM0_1 : Memref sig .tc .vmem S48x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the output's staging buffer holds after the body at point `t`. -/
def outsAt (c : Dev nD) (t : Fin cfg0.N) : Vec F S48x48x256 .f32 :=
  outV (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the output's at `outsAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The body leaves the block of the packed codes as it was. -/
theorem after0_0 (c : Dev nD) (t : Fin cfg0.N) : (dats m 0 c).after 0 t = iblk m c 0 t := by dsimp only [dats]
/-- The body leaves the block of the scales as it was. -/
theorem after0_1 (c : Dev nD) (t : Fin cfg0.N) : (dats m 0 c).after 1 t = iblk m c 1 t := by dsimp only [dats]
/-- The body leaves the block of the counts as it was. -/
theorem after0_2 (c : Dev nD) (t : Fin cfg0.N) : (dats m 0 c).after 2 t = iblk m c 2 t := by dsimp only [dats]
/-- The body leaves the block of the new counts as it was. -/
theorem after0_3 (c : Dev nD) (t : Fin cfg0.N) : (dats m 0 c).after 3 t = iblk m c 3 t := by dsimp only [dats]
/-- The body leaves the block of the offsets as it was. -/
theorem after0_4 (c : Dev nD) (t : Fin cfg0.N) : (dats m 0 c).after 4 t = iblk m c 4 t := by dsimp only [dats]
/-- The body leaves the output's buffer at `outsAt`. -/
theorem after0_5 (c : Dev nD) (t : Fin cfg0.N) : (dats m 0 c).after 5 t = (outsAt m c t) := by dsimp only [dats]

/-- The packed codes' buffer holds its block at every point. -/
theorem before0_0 (c : Dev nD) (t : Fin cfg0.N) (d) : (dats m 0 c).before 0 t d = iblk m c 0 t :=
  before0_0_of m (dats m 0 c) (A_eq m c 0) (after0_0 m c) t d
/-- The scales' buffer holds its block at every point. -/
theorem before0_1 (c : Dev nD) (t : Fin cfg0.N) (d) : (dats m 0 c).before 1 t d = iblk m c 1 t :=
  before0_1_of m (dats m 0 c) (A_eq m c 1) (after0_1 m c) t d
/-- The counts' buffer holds its block at every point. -/
theorem before0_2 (c : Dev nD) (t : Fin cfg0.N) (d) : (dats m 0 c).before 2 t d = iblk m c 2 t :=
  before0_2_of m (dats m 0 c) (A_eq m c 2) (after0_2 m c) t d
/-- The new counts' buffer holds its block at every point. -/
theorem before0_3 (c : Dev nD) (t : Fin cfg0.N) (d) : (dats m 0 c).before 3 t d = iblk m c 3 t :=
  before0_3_of m (dats m 0 c) (A_eq m c 3) (after0_3 m c) t d
/-- The offsets' buffer holds its block at every point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_run (F := F) c (grid0.coords t) _ (hs0_0 t) _ (hs0_1 t) _ (hs0_2 t) _ (hs0_3 t) _ (hs0_4 t) _ (hs0_5 t) _ (Memref.isWhole_whole _) _ (Memref.isWhole_whole _) (iblk m c 0 t) (iblk m c 1 t) (iblk m c 2 t) (iblk m c 3 t) (iblk m c 4 t) (hH c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m 0 c) (defs₀ (F := F)) Variants.none () Set.univ := fun t => by
  rw [bigSep_W0, bigSep_W0, defs₀_row]
  exact triple_restated (sound_body m hH c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the transposition after the region leaves it (Lib/Pipeline/Frame.lean
    `FramePost`). -/
theorem run_main (hH : Hyps m) : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hH)

/-- The frame, under `Hyps`: the launch runs, the arguments end unchanged and every semaphore counter reads zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.Kernel.Join

end
-- ==== Proof.Bits.InRange.lean ====
/-
  The precondition read back, and the kernel's blocks read at entries: each window's block at a grid point as entries of
  the arguments. Together they give `Hyps`: at every grid point every offset word leaves its node's rows inside the block.
-/
module

public import proofs.«01_k».proof.Proof.Bits.Whole
public import proofs.«01_k».proof.Proof.Gen.Pre_pre
public import Idealize.ShloMosaic.Lib.ReduceAll
public import Idealize.ShloMosaic.Lib.Pipeline.ValueKit

@[expose] public section

set_option maxRecDepth 16384

noncomputable section

namespace Cert.Kernel.Join

open Idealize.ShloMosaic Idealize.ShloMosaic.TcCoe
open Cert.Kernel.Gen

variable {F : FTy → Type} [FloatOps F]

/-- The precondition's function is true: every offset lies in [0, 1524]. -/
theorem off_le (a0 : IVec S256x1536x128 32) (a1 : FVec F S48x32768 .f32) (a2 a3 a4 : IVec S32768 32)
    (h : Cert.Pre_pre.fn (F := F) a0 a1 a2 a3 a4 = fun _ => 1#1) (n : S32768.Idx) : (a4 n).toNat ≤ 1524 := by
  have e := congrFun h (fun a => a.elim0)
  haveI : Subsingleton Cert.Pre_pre.S_.Idx := ⟨fun a b => funext fun x => x.elim0⟩
  have e2 := Host.reduce_andi_all _ _ _ _ _ e n
  obtain ⟨h1, h2⟩ := IntOp.andi_eq_one.1 e2
  have h1 := IntOp.cmpi_sge.1 h1
  have h2 := IntOp.cmpi_sle.1 h2
  simp only [broadcastInDim, constantI, BitVec.toInt, BitVec.toNat_ofNat] at h1 h2
  omega

variable (m : (ℓ : Loc nD τ sig) → Buf (Elt F) ℓ)

/-- The node at lane `l` of grid point `t`. -/
def nodeAt (t : Fin cfg0.N) (l : Fin 256) : Fin 32768 :=
  ⟨256 * t.val + l.val, by have : t.val < 128 := t.isLt; omega⟩

/-- The region finds the counts reshaped to one row. -/
theorem V_v0 (c : Dev nD) : V m c main_v0 = shapeCast S1x32768 (m ((c : Thread nD τ).loc main_arg2)) shapeCasts_S32768_S1x32768 := by
  simp only [V, V0, hostOps0, List.flatten_cons, List.flatten_nil, List.append_nil]; after_results_simp <;> rfl

/-- The region finds the new counts reshaped to one row. -/
theorem V_v1 (c : Dev nD) : V m c main_v1 = shapeCast S1x32768 (m ((c : Thread nD τ).loc main_arg3)) shapeCasts_S32768_S1x32768 := by
  simp only [V, V0, hostOps0, List.flatten_cons, List.flatten_nil, List.append_nil]; after_results_simp <;> rfl

/-- The region finds the offsets reshaped to one row of 256 per grid point. -/
theorem V_v2 (c : Dev nD) : V m c main_v2 = shapeCast S128x1x256 (m ((c : Thread nD τ).loc main_arg4)) shapeCasts_S32768_S128x1x256 := by
  simp only [V, V0, hostOps0, List.flatten_cons, List.flatten_nil, List.append_nil]; after_results_simp <;> rfl

/-- Window 0's block is the point's two regions. -/
theorem idx0 : ∀ t : Fin cfg0.N, win0_0.index t = ![t.val, 0, 0] := (by decide +kernel : ∀ t : Fin grid0.N, _)
/-- Window 1's block is the point's 256 columns. -/
theorem idx1 : ∀ t : Fin cfg0.N, win0_1.index t = ![0, t.val] := (by decide +kernel : ∀ t : Fin grid0.N, _)
/-- Window 2's block is the point's 256 columns. -/
theorem idx2 : ∀ t : Fin cfg0.N, win0_2.index t = ![0, t.val] := (by decide +kernel : ∀ t : Fin grid0.N, _)
/-- Window 3's block is the point's 256 columns. -/
theorem idx3 : ∀ t : Fin cfg0.N, win0_3.index t = ![0, t.val] := (by decide +kernel : ∀ t : Fin grid0.N, _)
/-- Window 4's block is the point's row. -/
theorem idx4 : ∀ t : Fin cfg0.N, win0_4.index t = ![t.val, 0, 0] := (by decide +kernel : ∀ t : Fin grid0.N, _)
/-- Window 5's block is the point's 256 columns of every slab. -/
theorem idx5 : ∀ t : Fin cfg0.N, win0_5.index t = ![0, 0, t.val] := (by decide +kernel : ∀ t : Fin grid0.N, _)

/-- The packed rows' block at an entry: region `2 t + h` of the packed codes. -/
theorem blk0 (c : Dev nD) (t : Fin cfg0.N) (h : Fin 2) (r : Fin 1536) (d : Fin 128) :
    iblk m c 0 t (ix3 h r d) = m ((c : Thread nD τ).loc main_arg0)
      (ix3 (⟨2 * t.val + h.val, by have : t.val < 128 := t.isLt; omega⟩ : Fin 256) r d) := by
  blk_simp [iblk]
  refine (congrFun (V_main_arg0 m c) _).trans (congrArg (m ((c : Thread nD τ).loc main_arg0)) ?_)
  blk_ext [idx0]

/-- The scales' block at an entry: column `256 t + l`. -/
theorem blk1 (c : Dev nD) (t : Fin cfg0.N) (i : Fin 48) (l : Fin 256) :
    iblk m c 1 t (ix2 i l) = m ((c : Thread nD τ).loc main_arg1) (ix2 i (nodeAt t l)) := by
  blk_simp [iblk]
  refine (congrFun (V_main_arg1 m c) _).trans (congrArg (m ((c : Thread nD τ).loc main_arg1)) ?_)
  blk_ext [idx1, nodeAt]

/-- The counts' block at an entry: the count of node `256 t + l`. -/
theorem blk2 (c : Dev nD) (t : Fin cfg0.N) (l : Fin 256) :
    iblk m c 2 t (ix2 (0 : Fin 1) l) = m ((c : Thread nD τ).loc main_arg2) (ix1 (nodeAt t l)) := by
  blk_simp [iblk]
  refine (congrFun (V_v0 m c) _).trans (shapeCast_apply (s := S32768) (t := S1x32768) _ _ _ (ix1 (nodeAt t l)) ?_)
  simp only [Shape.rowMajor_val_one, Shape.rowMajor_val_two]
  blk_simp [idx2, nodeAt]
  show 256 * t.val + l.val = _
  omega

/-- The new counts' block at an entry: the new count of node `256 t + l`. -/
theorem blk3 (c : Dev nD) (t : Fin cfg0.N) (l : Fin 256) :
    iblk m c 3 t (ix2 (0 : Fin 1) l) = m ((c : Thread nD τ).loc main_arg3) (ix1 (nodeAt t l)) := by
  blk_simp [iblk]
  refine (congrFun (V_v1 m c) _).trans (shapeCast_apply (s := S32768) (t := S1x32768) _ _ _ (ix1 (nodeAt t l)) ?_)
  simp only [Shape.rowMajor_val_one, Shape.rowMajor_val_two]
  blk_simp [idx3, nodeAt]
  show 256 * t.val + l.val = _
  omega

/-- The offsets' block at an entry: the offset of node `256 t + l`. -/
theorem blk4 (c : Dev nD) (t : Fin cfg0.N) (l : Fin 256) :
    iblk m c 4 t (ix3 (0 : Fin 1) (0 : Fin 1) l) = m ((c : Thread nD τ).loc main_arg4) (ix1 (nodeAt t l)) := by
  blk_simp [iblk]
  refine (congrFun (V_v2 m c) _).trans (shapeCast_apply (s := S32768) (t := S128x1x256) _ _ _ (ix1 (nodeAt t l)) ?_)
  simp only [Shape.rowMajor_val_one, Shape.rowMajor_val_three]
  blk_simp [idx4, nodeAt]
  show 256 * t.val + l.val = _
  omega

/-- Offsets in [0, 1524] leave every node's twelve rows inside its block. -/
theorem hyps_of_le (h : ∀ (c : Dev nD) (n : S32768.Idx), (m ((c : Thread nD τ).loc main_arg4) n).toNat ≤ 1524) : Hyps m := by
  intro c t n
  rw [blk4 m c t n]
  exact Nat.add_le_add_right (h c (ix1 (nodeAt t n))) 12

end Cert.Kernel.Join

end
-- ==== Proof.Value.lean ====
/-
  What one grid point of the kernel leaves in its output block, written as functions of the input blocks alone:
  the block-diagonal dot of a node pair, the transposed dots, their diagonal, the scaled squared norms and the
  masked distances. Generic in the float instance.
-/
module

public import proofs.«01_k».proof.Proof.Gen.KernelIdeal.Skeleton
public import Idealize.ShloMosaic.Lib.Pointwise

@[expose] public section

set_option maxRecDepth 16384

noncomputable section

namespace Cert.KernelIdeal.Join

open Idealize.ShloMosaic Idealize.ShloMosaic.TcCoe
open Cert.KernelIdeal.Gen

variable {F : FTy → Type} [FloatOps F]

/-- The first loop makes 128 trips. -/
theorem trips1 : k0_t1_loop.trips = 128 := by decide +kernel
/-- The second loop makes 48 trips. -/
theorem trips2 : k0_t2_loop.trips = 48 := by decide +kernel
/-- The third loop makes 48 trips. -/
theorem trips3 : k0_t3_loop.trips = 48 := by decide +kernel

/-- The twelve packed rows of half `h` of the block that start at the word `w` (clamped at the block's end). -/
def rowsAt (x0 : Vec F S2x1536x128 .i32) (h : Fin 2) (w : BitVec 32) : Vec F S1x12x128 .i32 :=
  fun j => x0 (ix3 h (⟨min (w.toNat + (j 1).val) 1535, by omega⟩ : Fin 1536) (j 2))

/-- The dots of node pair `(p, p + 128)`: both nodes' codes side by side against their block diagonal. -/
def pairDot (x0 : Vec F S2x1536x128 .i32) (x4 : Vec F S1x1x256 .i32) (p : Fin 128) : Vec F S1x48x96 .f32 :=
  k0_pay3 (F := F) (rowsAt x0 0 (x4 (ix3 (0 : Fin 1) (0 : Fin 1) (⟨p.val, by omega⟩ : Fin 256))))
    (rowsAt x0 1 (x4 (ix3 (0 : Fin 1) (0 : Fin 1) (⟨p.val + 128, by omega⟩ : Fin 256))))

/-- The dots laid out with the nodes innermost: entry `(i, j, l)` is node `l`'s dot of slots `i` and `j`. -/
def gram (x0 : Vec F S2x1536x128 .i32) (x4 : Vec F S1x1x256 .i32) : Vec F S48x48x256 .f32 :=
  fun j => pairDot x0 x4 (⟨(j 2).val % 128, Nat.mod_lt _ (by decide)⟩ : Fin 128)
    (ix3 (0 : Fin 1) (j 0) (⟨((j 2).val / 128) * 48 + (j 1).val, by
      have h1 : (j 1).val < 48 := (j 1).isLt
      have h2 : (j 2).val < 256 := (j 2).isLt
      omega⟩ : Fin 96))

/-- The dots of each slot with itself. -/
def diag (x0 : Vec F S2x1536x128 .i32) (x4 : Vec F S1x1x256 .i32) : Vec F S48x256 .f32 :=
  fun j => gram x0 x4 (ix3 (j 0) (j 0) (j 1))

/-- Each slot's squared norm times its scale squared. -/
def qv (x0 : Vec F S2x1536x128 .i32) (x1 : Vec F S48x256 .f32) (x4 : Vec F S1x1x256 .i32) : Vec F S48x256 .f32 :=
  k0_pay1 (F := F) (k0_pay111 x1 (diag x0 x4))

/-- Row `i` of a 48 by 256 block. -/
def rowOf (v : Vec F S48x256 .f32) (i : Fin 48) : Vec F S1x256 .f32 := fun j => v (ix2 i (j 1))

/-- Slab `i` of a 48 by 48 by 256 block. -/
def slabOf (v : Vec F S48x48x256 .f32) (i : Fin 48) : Vec F S1x48x256 .f32 := fun j => v (ix3 i (j 1) (j 2))

/-- The masked distances from slot `i` to every slot, for every node of the block. -/
def distSlab (x0 : Vec F S2x1536x128 .i32) (x1 : Vec F S48x256 .f32) (x2 x3 : Vec F S1x256 .i32)
    (x4 : Vec F S1x1x256 .i32) (i : Fin 48) : Vec F S1x48x256 .f32 :=
  k0_pay2 (F := F) x2 x3 ⟨i.val, by rw [trips3]; exact i.isLt⟩ (rowOf x1 i) (rowOf (qv x0 x1 x4) i) (qv x0 x1 x4) x1
    (slabOf (gram x0 x4) i)

/-- The output block. -/
def outV (x0 : Vec F S2x1536x128 .i32) (x1 : Vec F S48x256 .f32) (x2 x3 : Vec F S1x256 .i32)
    (x4 : Vec F S1x1x256 .i32) : Vec F S48x48x256 .f32 :=
  fun j => distSlab x0 x1 x2 x3 x4 (j 0) (ix3 (0 : Fin 1) (j 1) (j 2))

end Cert.KernelIdeal.Join

end
-- ==== Proof.Pairs.lean ====
/-
  The body's three loops: the words and the rows each node's dot reads, and one invariant per loop (the dots stored pair
  by pair, transposed slot by slot, turned into distances slot by slot) with its step.
-/
module

public import proofs.«01_k».proof.Proof.Value
public import Idealize.ShloMosaic.Lib.Exec
public import Idealize.ShloMosaic.Lib.Tactic
public import Idealize.ShloMosaic.Lib.WritesUnit
public import Idealize.ShloMosaic.Lib.Pointwise
public import Idealize.ShloMosaic.Lib.WholeRead
public import Idealize.ShloMosaic.Lib.Pipeline.Kit

@[expose] public section

set_option maxRecDepth 16384

noncomputable section

namespace Cert.KernelIdeal.Join

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Every node's twelve packed rows lie inside its half's block. -/
def InBlock (x4 : Vec F S1x1x256 .i32) : Prop :=
  ∀ n : Fin 256, (show BitVec 32 from x4 (ix3 (0 : Fin 1) (0 : Fin 1) n)).toNat + 12 ≤ 1536

/-- A word whose twelve rows lie inside the block meets the side condition of the first half's load. -/
theorem chk_lo (w : BitVec 32) (h : w.toNat + 12 ≤ 1536) : k0_chk1 w := fun a =>
  match a with
  | ⟨0, _⟩ => show 0 + 1 ≤ 2 by omega
  | ⟨1, _⟩ => h
  | ⟨2, _⟩ => show 0 + 128 ≤ 128 by omega

/-- A word whose twelve rows lie inside the block meets the side condition of the second half's load. -/
theorem chk_hi (w : BitVec 32) (h : w.toNat + 12 ≤ 1536) : k0_chk2 w := fun a =>
  match a with
  | ⟨0, _⟩ => show 1 + 1 ≤ 2 by omega
  | ⟨1, _⟩ => h
  | ⟨2, _⟩ => show 0 + 128 ≤ 128 by omega

section Trips

variable (c : Dev nD) (i : grid0.Coords) (arg1 : Memref sig .tc .vmem S2x1536x128 .i32) (harg1 : arg1.IsWhole) (arg2 : Memref sig .tc .vmem S48x256 .f32) (harg2 : arg2.IsWhole) (arg3 : Memref sig .tc .vmem S1x256 .i32) (harg3 : arg3.IsWhole) (arg4 : Memref sig .tc .vmem S1x256 .i32) (harg4 : arg4.IsWhole) (arg5 : Memref sig .tc .smem S1x1x256 .i32) (harg5 : arg5.IsWhole) (arg6 : Memref sig .tc .vmem S48x48x256 .f32) (harg6 : arg6.IsWhole) (arg7 : Memref sig .tc .vmem S128x48x128 .f32) (harg7 : arg7.IsWhole) (arg8 : Memref sig .tc .vmem S48x256 .f32) (harg8 : arg8.IsWhole)
  (x0 : Vec F S2x1536x128 .i32) (x1 : Vec F S48x256 .f32) (x2 x3 : Vec F S1x256 .i32) (x4 : Vec F S1x1x256 .i32)

/-- The word a trip reads first is node `k`'s offset. -/
theorem word_lo (k : Fin k0_t1_loop.trips) (hk : k.val < 256) :
    arg5.view.readAt (Elt F) (Rect.unit (s := S1x1x256) (k0_off1 k) S1x1x1.size (k0_off1_inb k)).toLoadRect (harg5.unread x4) (Shape.Idx.first (numel1_S1x1x1.symm ▸ Nat.one_pos))
      = x4 (ix3 (0 : Fin 1) (0 : Fin 1) (⟨k.val, hk⟩ : Fin 256)) := by
  rw [Memref.IsWhole.readAt_unread]
  congr 1
  funext a
  apply Fin.ext
  show k0_off1 k a + 1 * _ = _
  rw [show k0_off1 k a = _ from congrFun (k0_off1_eq k) a]
  match a with
  | ⟨0, _⟩ => rfl
  | ⟨1, _⟩ => rfl
  | ⟨2, _⟩ => rfl

/-- The word a trip reads second is the offset of node `k + 128`. -/
theorem word_hi (k : Fin k0_t1_loop.trips) (hk : k.val + 128 < 256) :
    arg5.view.readAt (Elt F) (Rect.unit (s := S1x1x256) (k0_off3 k) S1x1x1.size (k0_off3_inb k)).toLoadRect (harg5.unread x4) (Shape.Idx.first (numel1_S1x1x1.symm ▸ Nat.one_pos))
      = x4 (ix3 (0 : Fin 1) (0 : Fin 1) (⟨k.val + 128, hk⟩ : Fin 256)) := by
  rw [Memref.IsWhole.readAt_unread]
  congr 1
  funext a
  apply Fin.ext
  show k0_off3 k a + 1 * _ = _
  rw [show k0_off3 k a = _ from congrFun (k0_off3_eq k) a]
  match a with
  | ⟨0, _⟩ => rfl
  | ⟨1, _⟩ => rfl
  | ⟨2, _⟩ => rfl

/-- The rows a trip loads from the first half, at a word in range. -/
theorem rows_lo (w : BitVec 32) (h : k0_chk1 w) :
    arg1.view.readAt (Elt F) (Rect.unit (s := S2x1536x128) (k0_off2 w) S1x12x128.size (k0_off2_inb w h)).toLoadRect (harg1.unread x0)
      = rowsAt x0 0 w := by
  funext j
  rw [Memref.IsWhole.readAt_unread]
  unfold rowsAt
  congr 1
  funext a
  apply Fin.ext
  have hw : w.toNat + 12 ≤ 1536 := h (1 : Fin 3)
  have hj : (j 1).val < 12 := (j 1).isLt
  have h0 : (j 0).val < 1 := (j 0).isLt
  match a with
  | ⟨0, _⟩ => show 0 + 1 * (j 0).val = 0; omega
  | ⟨1, _⟩ => show w.toNat + 1 * (j 1).val = min (w.toNat + (j 1).val) 1535; omega
  | ⟨2, _⟩ => show 0 + 1 * (j 2).val = (j 2).val; omega

/-- The rows a trip loads from the second half, at a word in range. -/
theorem rows_hi (w : BitVec 32) (h : k0_chk2 w) :
    arg1.view.readAt (Elt F) (Rect.unit (s := S2x1536x128) (k0_off4 w) S1x12x128.size (k0_off4_inb w h)).toLoadRect (harg1.unread x0)
      = rowsAt x0 1 w := by
  funext j
  rw [Memref.IsWhole.readAt_unread]
  unfold rowsAt
  congr 1
  funext a
  apply Fin.ext
  have hw : w.toNat + 12 ≤ 1536 := h (1 : Fin 3)
  have hj : (j 1).val < 12 := (j 1).isLt
  have h0 : (j 0).val < 1 := (j 0).isLt
  match a with
  | ⟨0, _⟩ => show 1 + 1 * (j 0).val = 1; omega
  | ⟨1, _⟩ => show w.toNat + 1 * (j 1).val = min (w.toNat + (j 1).val) 1535; omega
  | ⟨2, _⟩ => show 0 + 1 * (j 2).val = (j 2).val; omega

/-- What the scratch of dots holds before trip `k` of the first loop: the dots of the node pairs before `k`. -/
def PairsUpTo (x0 : Vec F S2x1536x128 .i32) (x4 : Vec F S1x1x256 .i32) (k : ℕ) (v : Vec F S128x48x128 .f32) : Prop :=
  ∀ (p : Fin 128) (a : Fin 48) (l : Fin 96), p.val < k →
    v (ix3 p a (⟨l.val, by omega⟩ : Fin 128)) = pairDot x0 x4 p (ix3 (0 : Fin 1) a l)

/-- The first loop's invariant. -/
def inv1 (k : ℕ) (_ : Unit) : sProp 𝕄 :=
  iprop((arg1.view.loc (c : Thread nD τ) ↦[arg1.view.set]{fullShare} harg1.unread x0) ∗ (arg5.view.loc (c : Thread nD τ) ↦[arg5.view.set]{fullShare} harg5.unread x4)
    ∗ (∃ f, (arg7.view.loc (c : Thread nD τ) ↦[arg7.view.set]{fullShare} f) ∗ ⌜PairsUpTo x0 x4 k (arg7.view.read (Elt F) f)⌝))

/-- One trip of the first loop adds its pair's dots. -/
theorem step1 (hin : InBlock x4) (E : Set ℕ) (k : Fin k0_t1_loop.trips) (u : Unit) :
    inv1 (F := F) c arg1 harg1 arg5 harg5 arg7 x0 x4 k.val u
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 k u)
          (fun u' => inv1 (F := F) c arg1 harg1 arg5 harg5 arg7 x0 x4 (k.val + 1) u') := by
  have hk : k.val < 128 := Nat.lt_of_lt_of_le k.isLt k0_t1_abs.2.1
  have e1 := word_lo (F := F) arg5 harg5 x4 k (by omega)
  have e2 := word_hi (F := F) arg5 harg5 x4 k (by omega)
  have c1 := chk_lo _ (hin ⟨k.val, by omega⟩)
  have c2 := chk_hi _ (hin ⟨k.val + 128, by omega⟩)
  rw [show x4 _ = _ from e1.symm] at c1
  rw [show x4 _ = _ from e2.symm] at c2
  unfold k0_t1_body inv1
  iintro ⟨H1, H5, ⟨%f, H7, %hf⟩⟩
  sl_exec
  sl_step
  isplitl [H1]; · iexact H1
  isplitl [H5]; · iexact H5
  iexists _
  isplitl [H7]; · iexact H7
  ipureintro
  intro p a l hp
  rcases Nat.lt_or_eq_of_le (Nat.lt_succ_iff.mp hp) with h | h
  · rw [View.read_writes_cons_unit_of_not_mem (heq := k0_off5_eq k) (a := (0 : Fin 3)) (ha := Or.inl h)]
    exact hf p a l h
  · rw [View.read_writes_cons_unit_of_mem (heq := k0_off5_eq k) (x := ix3 (0 : Fin 1) a l) (hx := by
      intro b
      match b with
      | ⟨0, _⟩ => exact h
      | ⟨1, _⟩ => exact (Nat.zero_add _).symm
      | ⟨2, _⟩ => exact (Nat.zero_add _).symm)]
    obtain rfl : p = ⟨k.val, hk⟩ := Fin.ext h
    refine (congrFun (congrArg₂ (k0_pay3 (F := F)) (rows_lo (F := F) arg1 harg1 x0 _ c1) (rows_hi (F := F) arg1 harg1 x0 _ c2)) _).trans ?_
    exact congrFun (congrArg₂ (fun u v => k0_pay3 (F := F) (rowsAt x0 0 u) (rowsAt x0 1 v)) e1 e2) _

/-- The first transposed half at an entry. -/
theorem pay5_at (v : Vec F S128x1x128 .f32) (j : Fin 48) (l : Fin 128) :
    k0_pay5 (F := F) v (ix3 (0 : Fin 1) j l) = v (ix3 l (0 : Fin 1) (⟨j.val, by omega⟩ : Fin 128)) := by
  pointwise [k0_pay5, k0_pay4]

/-- The second transposed half at an entry. -/
theorem pay6_at (v : Vec F S128x1x128 .f32) (j : Fin 48) (l : Fin 128) :
    k0_pay6 (F := F) v (ix3 (0 : Fin 1) j l) = v (ix3 l (0 : Fin 1) (⟨48 + j.val, by omega⟩ : Fin 128)) := by
  pointwise [k0_pay6, k0_pay4]

/-- What the output block holds before trip `k` of the second loop: the transposed dots of the slots before `k`. -/
def GramUpTo (x0 : Vec F S2x1536x128 .i32) (x4 : Vec F S1x1x256 .i32) (k : ℕ) (v : Vec F S48x48x256 .f32) : Prop :=
  ∀ (a b : Fin 48) (l : Fin 256), a.val < k → v (ix3 a b l) = gram x0 x4 (ix3 a b l)

/-- The second loop's invariant. -/
def inv2 (f7 : BufTy.Contents (Elt F) arg7.view.ty) (k : ℕ) (_ : Unit) : sProp 𝕄 :=
  iprop((arg7.view.loc (c : Thread nD τ) ↦[arg7.view.set]{fullShare} f7)
    ∗ (∃ f, (arg6.view.loc (c : Thread nD τ) ↦[arg6.view.set]{fullShare} f) ∗ ⌜GramUpTo x0 x4 k (arg6.view.read (Elt F) f)⌝))

/-- One trip of the second loop adds its slot's transposed dots. -/
theorem step2 (f7 : BufTy.Contents (Elt F) arg7.view.ty) (h7 : PairsUpTo x0 x4 128 (arg7.view.read (Elt F) f7))
    (E : Set ℕ) (k : Fin k0_t2_loop.trips) (u : Unit) :
    inv2 (F := F) c arg6 arg7 x0 x4 f7 k.val u
      ⊢ wp frame (wpE (defs₀ (F := F)) Variants.none (c : Thread nD τ) none) E
          (k0_t2_body (F := F) i arg1 harg1 arg2 harg2 arg3 harg3 arg4 harg4 arg5 harg5 arg6 harg6 arg7 harg7 arg8 harg8 k u)
          (fun u' => inv2 (F := F) c arg6 arg7 x0 x4 f7 (k.val + 1) u') := by
  have hk : k.val < 48 := Nat.lt_of_lt_of_le k.isLt k0_t2_abs.2.1
  -- the loaded column of the scratch is the pairs' dots of slot `k`
  have hcol : ∀ (l : Fin 128) (r : Fin 96),
      arg7.view.readAt (Elt F) (Rect.unit (s := S128x48x128) (k0_off6 k) S128x1x128.size (k0_off6_inb k)).toLoadRect f7
          (ix3 l (0 : Fin 1) (⟨r.val, by omega⟩ : Fin 128))
        = pairDot x0 x4 l (ix3 (0 : Fin 1) (⟨k.val, hk⟩ : Fin 48) r) := by
    intro l r
    rw [← h7 l ⟨k.val, hk⟩ r l.isLt, View.readAt_apply]
    congr 1
    funext a
    apply Fin.ext
    show k0_off6 k a + 1 * _ = _
    rw [show k0_off6 k a = _ from congrFun (k0_off6_eq k) a]
    match a with
    | ⟨0, _⟩ => show 0 + 1 * l.val = l.val; omega
    | ⟨1, _⟩ => rfl
    | ⟨2, _⟩ => show 0 + 1 * r.val = r.val; omega
  unfold k0_t2_body inv2
  iintro ⟨H7, ⟨%f, H6, %hf⟩⟩
  sl_exec
  sl_step
  isplitl [H7]; · iexact H7
  iexists _
  isplitl [H6]; · iexact H6
  ipureintro
  intro a b l hp
  rcases Nat.lt_or_eq_of_le (Nat.lt_succ_iff.mp hp) with h | h
  · rw [View.read_writes_cons_unit_of_not_mem (heq := k0_off8_eq k) (a := (0 : Fin 3)) (ha := Or.inl h),
      View.read_writes_cons_unit_of_not_mem (heq := k0_off7_eq k) (a := (0 : Fin 3)) (ha := Or.inl h)]
    exact hf a b l h
  · obtain rfl : a = ⟨k.val, hk⟩ := Fin.ext h
    by_cases hl : l.val < 128
    · rw [View.read_writes_cons_unit_of_not_mem (heq := k0_off8_eq k) (a := (2 : Fin 3)) (ha := Or.inl hl),
        View.read_writes_cons_unit_of_mem (heq := k0_off7_eq k) (x := ix3 (0 : Fin 1) b (⟨l.val, hl⟩ : Fin 128)) (hx := by
          intro b
          match b with
          | ⟨0, _⟩ => rfl
          | ⟨1, _⟩ => exact (Nat.zero_add _).symm
          | ⟨2, _⟩ => exact (Nat.zero_add _).symm),
        pay5_at]
      refine (hcol ⟨l.val, hl⟩ ⟨b.val, by omega⟩).trans ?_
      unfold gram
      congr 1
      · congr 1; exact (Nat.mod_eq_of_lt hl).symm
      · congr 1; apply Fin.ext; show b.val = l.val / 128 * 48 + b.val; omega
    · rw [View.read_writes_cons_unit_of_mem (heq := k0_off8_eq k) (x := ix3 (0 : Fin 1) b (⟨l.val - 128, by omega⟩ : Fin 128)) (hx := by
          intro b
          match b with
          | ⟨0, _⟩ => rfl
          | ⟨1, _⟩ => exact (Nat.zero_add _).symm
          | ⟨2, _⟩ => show l.val = 128 + (l.val - 128); omega),
        pay6_at]
      refine (hcol ⟨l.val - 128, by omega⟩ ⟨48 + b.val, by omega⟩).trans ?_
      unfold gram
      congr 1
      · congr 1; show l.val - 128 = l.val % 128; omega
      · congr 1; apply Fin.ext; show 48 + b.val = l.val / 128 * 48 + b.val; omega

/-- What the output block holds before trip `k` of the third loop: distances in the slabs before `k`, dots in the rest. -/
def DistUpTo (x0 : Vec F S2x1536x128 .i32) (x1 : Vec F S48x256 .f32) (x2 x3 : Vec F S1x256 .i32) (x4 : Vec F S1x1x256 .i32)
    (k : ℕ) (v : Vec F S48x48x256 .f32) : Prop :=
  ∀ (a b : Fin 48) (l : Fin 256), v (ix3 a b l) = if a.val < k then outV x0 x1 x2 x3 x4 (ix3 a b l) else gram x0 x4 (ix3 a b l)

/-- The third loop's invariant. -/
def inv3 (f8 : BufTy.Contents (Elt F) arg8.view.ty) (k : ℕ) (_ : Unit) : sProp 𝕄 :=
  iprop((arg2.view.loc (c : Thread nD τ) ↦[arg2.view.set]{fullShare} harg2.unread x1)
    ∗ (arg8.view.loc (c : Thread nD τ) ↦[arg8.view.set]{fullShare} f8)
    ∗ (∃ f, (arg6.view.loc (c : Thread nD τ) ↦[arg6.view.set]{fullShare} f) ∗ ⌜DistUpTo x0 x1 x2 x3 x4 k (arg6.view.read (Elt F) f)⌝))

/-- A load of the whole 48 by 256 block reads it as it is. -/
theorem whole_read (v : View sig .tc .vmem S48x256 .f32) (f : v.ty.Contents (Elt F)) :
    v.readAt (Elt F) (Rect.unit (s := S48x256) ![0, 0] S48x256.size inb_S48x256_S48x256_0_0).toLoadRect f = v.read (Elt F) f := by
  funext j
  rw [View.readAt_apply]
  congr 1
  funext a
  apply Fin.ext
  match a with
  | ⟨0, _⟩ => show 0 + 1 * (j 0).val = (j 0).val; omega
  | ⟨1, _⟩ => show 0 + 1 * (j 1).val = (j 1).val; omega

/-- A trip's row load of a 48 by 256 block reads row `k`. -/
theorem row_read (v : View sig .tc .vmem S48x256 .f32) (f : v.ty.Contents (Elt F)) (k : Fin k0_t3_loop.trips) (hk : k.val < 48) :
    v.readAt (Elt F) (Rect.unit (s := S48x256) (k0_off9 k) S1x256.size (k0_off9_inb k)).toLoadRect f
      = rowOf (v.read (Elt F) f) ⟨k.val, hk⟩ := by
  funext j
  rw [View.readAt_apply]
  unfold rowOf
  congr 1
  funext a
  apply Fin.ext
  show k0_off9 k a + 1 * _ = _
  rw [show k0_off9 k a = _ from congrFun (k0_off9_eq k) a]
  have h0 : (j 0).val < 1 := (j 0).isLt
  match a with
  | ⟨0, _⟩ => show k.val + 1 * (j 0).val = k.val; omega
  | ⟨1, _⟩ => show 0 + 1 * (j 1).val = (j 1).val; omega

/-- One trip of the third loop turns its slab of dots into distances. -/
theorem step3 (v2 v3 : Vec F S1x256 .i32) (e2 : v2 = x2) (e3 : v3 = x3)
    (f8 : BufTy.Contents (Elt F) arg8.view.ty) (h8 : arg8.view.read (Elt F) f8 = qv x0 x1 x4)
    (E : Set ℕ) (k : Fin k0_t3_loop.trips) (u : Unit) :
    inv3 (F := F) c arg2 harg2 arg6 arg8 x0 x1 x2 x3 x4 f8 k.val u
      ⊢ wp frame (wpE (defs₀ (F := F)) Variants.none (c : Thread nD τ) none) E
          (k0_t3_body (F := F) i arg1 harg1 arg2 harg2 arg3 harg3 arg4 harg4 arg5 harg5 arg6 harg6 arg7 harg7 arg8 harg8 v2 v3 k u)
          (fun u' => inv3 (F := F) c arg2 harg2 arg6 arg8 x0 x1 x2 x3 x4 f8 (k.val + 1) u') := by
  subst e2 e3
  have hk : k.val < 48 := Nat.lt_of_lt_of_le k.isLt k0_t3_abs.2.1
  unfold k0_t3_body inv3
  iintro ⟨H2, H8, ⟨%f, H6, %hf⟩⟩
  -- the loaded slab still holds dots
  have hslab : arg6.view.readAt (Elt F) (Rect.unit (s := S48x48x256) (k0_off10 k) S1x48x256.size (k0_off10_inb k)).toLoadRect f
      = slabOf (gram x0 x4) ⟨k.val, hk⟩ := by
    funext j
    have h0 : (j 0).val < 1 := (j 0).isLt
    have := hf ⟨k.val, hk⟩ (j 1) (j 2)
    rw [if_neg (Nat.lt_irrefl _)] at this
    unfold slabOf
    rw [← this, View.readAt_apply]
    congr 1
    funext a
    apply Fin.ext
    show k0_off10 k a + 1 * _ = _
    rw [show k0_off10 k a = _ from congrFun (k0_off10_eq k) a]
    match a with
    | ⟨0, _⟩ => show k.val + 1 * (j 0).val = k.val; omega
    | ⟨1, _⟩ => show 0 + 1 * (j 1).val = (j 1).val; omega
    | ⟨2, _⟩ => show 0 + 1 * (j 2).val = (j 2).val; omega
  sl_exec
  sl_step
  isplitl [H2]; · iexact H2
  isplitl [H8]; · iexact H8
  iexists _
  isplitl [H6]; · iexact H6
  ipureintro
  intro a b l
  by_cases h : a.val = k.val
  · rw [View.read_writes_cons_unit_of_mem (heq := k0_off10_eq k) (x := ix3 (0 : Fin 1) b l) (hx := by
      intro b
      match b with
      | ⟨0, _⟩ => exact h
      | ⟨1, _⟩ => exact (Nat.zero_add _).symm
      | ⟨2, _⟩ => exact (Nat.zero_add _).symm), if_pos (by omega)]
    obtain rfl : a = ⟨k.val, hk⟩ := Fin.ext h
    unfold outV distSlab
    rw [whole_read, whole_read, row_read (hk := hk), row_read (hk := hk), h8, harg2.read_unread]
    rfl
  · rw [View.read_writes_cons_unit_of_not_mem (heq := k0_off10_eq k) (a := (0 : Fin 3)) (ha := by
      show a.val < k.val ∨ k.val + 1 ≤ a.val; omega)]
    refine (hf a b l).trans ?_
    by_cases h' : a.val < k.val
    · rw [if_pos h', if_pos (by omega)]
    · rw [if_neg h', if_neg (by omega)]

end Trips
end Cert.KernelIdeal.Join
-- ==== Proof.Run.lean ====
/-
  The whole body run: its loops by their invariants, the ninety-six copies of the diagonal as one list of pieces, and the
  output block left at `outV` of the input blocks.
-/
module

public import proofs.«01_k».proof.Proof.Pairs
public import Idealize.ShloMosaic.Lib.Exec
public import Idealize.ShloMosaic.Lib.Tactic
public import Idealize.ShloMosaic.Lib.WritesUnit
public import Idealize.ShloMosaic.Lib.Pointwise
public import Idealize.ShloMosaic.Lib.WholeRead
public import Idealize.ShloMosaic.Lib.Pipeline.Kit

@[expose] public section

set_option maxRecDepth 16384

noncomputable section

namespace Cert.KernelIdeal.Join

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

section Run

variable (c : Dev nD) (i : grid0.Coords) (arg1 : Memref sig .tc .vmem S2x1536x128 .i32) (harg1 : arg1.IsWhole) (arg2 : Memref sig .tc .vmem S48x256 .f32) (harg2 : arg2.IsWhole) (arg3 : Memref sig .tc .vmem S1x256 .i32) (harg3 : arg3.IsWhole) (arg4 : Memref sig .tc .vmem S1x256 .i32) (harg4 : arg4.IsWhole) (arg5 : Memref sig .tc .smem S1x1x256 .i32) (harg5 : arg5.IsWhole) (arg6 : Memref sig .tc .vmem S48x48x256 .f32) (harg6 : arg6.IsWhole) (arg7 : Memref sig .tc .vmem S128x48x128 .f32) (harg7 : arg7.IsWhole) (arg8 : Memref sig .tc .vmem S48x256 .f32) (harg8 : arg8.IsWhole)
  (x0 : Vec F S2x1536x128 .i32) (x1 : Vec F S48x256 .f32) (x2 x3 : Vec F S1x256 .i32) (x4 : Vec F S1x1x256 .i32)

/-- The `n`-th diagonal copy: slot `n % 48` of the nodes' half `n / 48`, from the output block's diagonal into the scratch. -/
def copyPiece (g6 : BufTy.Contents (Elt F) arg6.view.ty) (n : Fin 96) : View.Piece (Elt F) S48x256 .f32 :=
  ⟨Rect.unit (s := S48x256) ![n.val % 48, 128 * (n.val / 48)] S1x128.size (by
      intro a
      match a with
      | ⟨0, _⟩ => show n.val % 48 + 1 ≤ 48; omega
      | ⟨1, _⟩ => show 128 * (n.val / 48) + 128 ≤ 256; omega),
    k0_pay7 (F := F) (arg6.view.readAt (Elt F) (Rect.unit (s := S48x48x256) ![n.val % 48, n.val % 48, 128 * (n.val / 48)] S1x1x128.size (by
      intro a
      match a with
      | ⟨0, _⟩ => show n.val % 48 + 1 ≤ 48; omega
      | ⟨1, _⟩ => show n.val % 48 + 1 ≤ 48; omega
      | ⟨2, _⟩ => show 128 * (n.val / 48) + 128 ≤ 256; omega)).toLoadRect g6)⟩

/-- A copied row at an entry. -/
theorem pay7_at (v : Vec F S1x1x128 .f32) (l : Fin 128) :
    k0_pay7 (F := F) v (ix2 (0 : Fin 1) l) = v (ix3 (0 : Fin 1) (0 : Fin 1) l) := by
  pointwise [k0_pay7]

/-- Each copy carries the diagonal of the dots. -/
theorem copyPiece_at (g6 : BufTy.Contents (Elt F) arg6.view.ty) (h6 : GramUpTo x0 x4 48 (arg6.view.read (Elt F) g6))
    (n : Fin 96) (x : (copyPiece arg6 g6 n).1.shape.Idx) :
    (copyPiece arg6 g6 n).2 x = diag x0 x4 ((copyPiece arg6 g6 n).1.emb x) := by
  obtain ⟨l, rfl⟩ : ∃ l : Fin 128, x = ix2 (0 : Fin 1) l := ⟨x 1, by
    funext a
    match a with
    | ⟨0, _⟩ => exact Fin.ext (by have h : (x 0).val < 1 := (x 0).isLt; show (x 0).val = 0; omega)
    | ⟨1, _⟩ => rfl⟩
  have hn : n.val % 48 < 48 := Nat.mod_lt _ (by decide)
  have hl : 128 * (n.val / 48) + l.val < 256 := by omega
  show k0_pay7 (F := F) (arg6.view.readAt (Elt F) (Rect.unit (s := S48x48x256) ![n.val % 48, n.val % 48, 128 * (n.val / 48)] S1x1x128.size _).toLoadRect g6) (ix2 (0 : Fin 1) l) = _
  rw [pay7_at, View.readAt_apply]
  refine Eq.trans ?_ ((h6 ⟨n.val % 48, hn⟩ ⟨n.val % 48, hn⟩ ⟨128 * (n.val / 48) + l.val, hl⟩ hn).trans ?_)
  · congr 1
    funext a
    apply Fin.ext
    match a with
    | ⟨0, _⟩ => rfl
    | ⟨1, _⟩ => rfl
    | ⟨2, _⟩ => show 128 * (n.val / 48) + 1 * l.val = 128 * (n.val / 48) + l.val; omega
  · unfold diag
    congr 1
    funext a
    apply Fin.ext
    match a with
    | ⟨0, _⟩ => rfl
    | ⟨1, _⟩ => rfl
    | ⟨2, _⟩ => show 128 * (n.val / 48) + l.val = 128 * (n.val / 48) + 1 * l.val; omega

/-- After all the copies the scratch holds the diagonal, whatever it held before. -/
theorem copied_read (g6 : BufTy.Contents (Elt F) arg6.view.ty) (h6 : GramUpTo x0 x4 48 (arg6.view.read (Elt F) g6))
    (f : BufTy.Contents (Elt F) arg8.view.ty) :
    arg8.view.read (Elt F) (arg8.view.writes (Elt F) f ((List.finRange 96).reverse.map (copyPiece arg6 g6))) = diag x0 x4 := by
  funext y
  refine View.read_writes_apply_of_pieces _ _ (diag x0 x4) _ ?_ y ?_
  · intro p hp x
    obtain ⟨n, -, rfl⟩ := List.mem_map.1 hp
    exact copyPiece_at arg6 x0 x4 g6 h6 n x
  · have h0 : (y 0).val < 48 := (y 0).isLt
    have h1 : (y 1).val < 256 := (y 1).isLt
    refine ⟨_, List.mem_map.2 ⟨⟨(y 1).val / 128 * 48 + (y 0).val, by omega⟩, List.mem_reverse.2 (List.mem_finRange _), rfl⟩, ?_⟩
    unfold copyPiece
    rw [Rect.mem_set_unit]
    intro a
    match a with
    | ⟨0, _⟩ => show ((y 1).val / 128 * 48 + (y 0).val) % 48 ≤ (y 0).val ∧ (y 0).val < ((y 1).val / 128 * 48 + (y 0).val) % 48 + 1; omega
    | ⟨1, _⟩ => show 128 * (((y 1).val / 128 * 48 + (y 0).val) / 48) ≤ (y 1).val ∧ (y 1).val < 128 * (((y 1).val / 128 * 48 + (y 0).val) / 48) + 128; omega

/-- A load of a whole one by 256 block reads it as it is. -/
theorem whole_read1 (v : View sig .tc .vmem S1x256 .i32) (f : v.ty.Contents (Elt F)) :
    v.readAt (Elt F) (Rect.unit (s := S1x256) ![0, 0] S1x256.size inb_S1x256_S1x256_0_0).toLoadRect f = v.read (Elt F) f := by
  funext j
  rw [View.readAt_apply]
  congr 1
  funext a
  apply Fin.ext
  match a with
  | ⟨0, _⟩ => show 0 + 1 * (j 0).val = (j 0).val; omega
  | ⟨1, _⟩ => show 0 + 1 * (j 1).val = (j 1).val; omega

set_option maxHeartbeats 0 in
/-- The body runs from the input blocks, with the output's buffer and both scratch buffers at any contents, and leaves the
    inputs as they were and the output's buffer at `outV`. -/
theorem body_run (hin : InBlock x4) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 x3 x4) ∗ (∃ d, owns (c : Thread nD τ) arg7 fullShare d) ∗ (∃ d, owns (c : Thread nD τ) arg8 fullShare d)) -∗ K ⟨⟩))
          ⊢ wp frame (wpE (defs₀ (F := F)) Variants.none c none) E (cc0_tc_body i arg1 harg1 arg2 harg2 arg3 harg3 arg4 harg4 arg5 harg5 arg6 harg6 arg7 harg7 arg8 harg8) K := by
  rw [cc0_tc_body_eq_skeleton]; unfold cc0_tc_body_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  simp only [bind_assoc]
  sl_for (inv1 (F := F) c arg1 harg1 arg5 harg5 arg7 x0 x4) $$ [H0 H4 HS0]
  case region => exact fun k u => step1 (F := F) c i arg1 harg1 arg2 harg2 arg3 harg3 arg4 harg4 arg5 harg5 arg6 harg6 arg7 harg7 arg8 harg8 x0 x4 hin E k u
  · unfold inv1
    isplitl [H0]; · iexact H0
    isplitl [H4]; · iexact H4
    iexists _; isplitl [HS0]; · iexact HS0
    ipureintro; intro p a l h; exact absurd h (Nat.not_lt_zero _)
  unfold inv1
  iintro %u1 ⟨H0, H4, ⟨%g7, HS0, %h7⟩⟩
  rw [show Scf.trips k0_t1_loop.lb k0_t1_loop.ub k0_t1_loop.st = 128 from trips1] at h7
  sl_for (inv2 (F := F) c arg6 arg7 x0 x4 g7) $$ [HS0 H5]
  case region => exact fun k u => step2 (F := F) c i arg1 harg1 arg2 harg2 arg3 harg3 arg4 harg4 arg5 harg5 arg6 harg6 arg7 harg7 arg8 harg8 x0 x4 g7 h7 E k u
  · unfold inv2
    isplitl [HS0]; · iexact HS0
    iexists _; isplitl [H5]; · iexact H5
    ipureintro; intro p a l h; exact absurd h (Nat.not_lt_zero _)
  unfold inv2
  iintro %u2 ⟨HS0, ⟨%g6, H5, %h6⟩⟩
  rw [show Scf.trips k0_t2_loop.lb k0_t2_loop.ub k0_t2_loop.st = 48 from trips2] at h6
  sl_exec_parts
  have h96 : body_run.sl.HS1_96 c arg6 g6 = (List.finRange 96).reverse.map (copyPiece (F := F) arg6 g6) := rfl
  have h8 : arg8.view.read (Elt F) (arg8.view.writes (Elt F) arg8.view.junk (body_run.sl.HS1_97 c arg2 harg2 arg6 arg8 x1 g6)) = qv x0 x1 x4 := by
    unfold body_run.sl.HS1_97
    funext y
    rw [View.read_writes_cons_unit_of_mem (heq := rfl) (x := y) (hx := fun a => by
      match a with
      | ⟨0, _⟩ => exact (Nat.zero_add _).symm
      | ⟨1, _⟩ => exact (Nat.zero_add _).symm)]
    unfold body_run.sl.r_1 body_run.sl.v484
    unfold View.readCov
    rw [h96, whole_read, whole_read, copied_read (F := F) arg6 arg8 x0 x4 g6 h6, hf1]
    rfl
  sl_for (inv3 (F := F) c arg2 harg2 arg6 arg8 x0 x1 x2 x3 x4 _) $$ [H1 HS1 H5]
  case region => exact fun k u => step3 (F := F) c i arg1 harg1 arg2 harg2 arg3 harg3 arg4 harg4 arg5 harg5 arg6 harg6 arg7 harg7 arg8 harg8 x0 x1 x2 x3 x4 _ _ ((whole_read1 _ _).trans hf2) ((whole_read1 _ _).trans hf3) _ h8 E k u
  · unfold inv3
    isplitl [H1]; · iexact H1
    isplitl [HS1]; · iexact HS1
    iexists _; isplitl [H5]; · iexact H5
    ipureintro; intro p a l; rw [if_neg (Nat.not_lt_zero _)]; exact h6 p a l p.isLt
  unfold inv3
  iintro %u3 ⟨H1, HS1, ⟨%g, H5, %hg⟩⟩
  rw [show Scf.trips k0_t3_loop.lb k0_t3_loop.ub k0_t3_loop.st = 48 from trips3] at hg
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro
      funext j
      rw [eq_ix3 j]
      exact (hg (j 0) (j 1) (j 2)).trans (if_pos (j 0).isLt)
    · iexact H5
  isplitl [HS0]
  · iexists _, g7; isplitr
    · ipureintro; rfl
    · iexact HS0
  · iexists _, (arg8.view.writes (Elt F) arg8.view.junk (body_run.sl.HS1_97 c arg2 harg2 arg6 arg8 x1 g6)); isplitr
    · ipureintro; rfl
    · iexact HS1

end Run
end Cert.KernelIdeal.Join
-- ==== Proof.Whole.lean ====
/-
  The whole launch run: the body's run at every grid point, the pipeline's proof data (each output block at `outV` of the
  point's input blocks), the run of `main`, and the frame claim, all under `Hyps`: every offset word leaves its node's
  rows inside the block.
-/
module

public import proofs.«01_k».proof.Proof.Run
public import proofs.«01_k».proof.Proof.Gen.KernelIdeal.Frame
public import Idealize.ShloMosaic.Lib.Claim

@[expose] public section

set_option maxRecDepth 16384

noncomputable section

namespace Cert.KernelIdeal.Join

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every offset word of every point's block leaves its node's rows inside the block. -/
def Hyps : Prop := ∀ (c : Dev nD) (t : Fin cfg0.N), InBlock (F := F) (iblk m c 4 t)

/-- The staging memref of the packed codes at point `t`. -/
abbrev ms0_0 (t : Fin cfg0.N) : Memref sig .tc .vmem S2x1536x128 .i32 := win0_0.stage (cfg0.slots t 0)
/-- It is a whole buffer. -/
abbrev hs0_0 (t : Fin cfg0.N) : (ms0_0 t).IsWhole := hstage0_0 ((cfg0.slots t 0).cast nbuf0_0)
/-- The staging memref of the scales at point `t`. -/
abbrev ms0_1 (t : Fin cfg0.N) : Memref sig .tc .vmem S48x256 .f32 := win0_1.stage (cfg0.slots t 1)
/-- It is a whole buffer. -/
abbrev hs0_1 (t : Fin cfg0.N) : (ms0_1 t).IsWhole := hstage0_1 ((cfg0.slots t 1).cast nbuf0_1)
/-- The staging memref of the counts at point `t`. -/
abbrev ms0_2 (t : Fin cfg0.N) : Memref sig .tc .vmem S1x256 .i32 := win0_2.stage (cfg0.slots t 2)
/-- It is a whole buffer. -/
abbrev hs0_2 (t : Fin cfg0.N) : (ms0_2 t).IsWhole := hstage0_2 ((cfg0.slots t 2).cast nbuf0_2)
/-- The staging memref of the new counts at point `t`. -/
abbrev ms0_3 (t : Fin cfg0.N) : Memref sig .tc .vmem S1x256 .i32 := win0_3.stage (cfg0.slots t 3)
/-- It is a whole buffer. -/
abbrev hs0_3 (t : Fin cfg0.N) : (ms0_3 t).IsWhole := hstage0_3 ((cfg0.slots t 3).cast nbuf0_3)
/-- The staging memref of the offsets at point `t`. -/
abbrev ms0_4 (t : Fin cfg0.N) : Memref sig .tc .smem S1x1x256 .i32 := win0_4.stage (cfg0.slots t 4)
/-- It is a whole buffer. -/
abbrev hs0_4 (t : Fin cfg0.N) : (ms0_4 t).IsWhole := hstage0_4 ((cfg0.slots t 4).cast nbuf0_4)
/-- The staging memref of the output at point `t`. -/
abbrev ms0_5 (t : Fin cfg0.N) : Memref sig .tc .vmem S48x48x256 .f32 := win0_5.stage (cfg0.slots t 5)
/-- It is a whole buffer. -/
abbrev hs0_5 (t : Fin cfg0.N) : (ms0_5 t).IsWhole := hstage0_5 ((cfg0.slots t 5).cast nbuf0_5)

/-- The kernel's scratch for the pairs' dots, a whole buffer. -/
abbrev scM0_0 : Memref sig .tc .vmem S128x48x128 .f32 := Memref.whole cc0_scratch0
/-- The kernel's scratch for the scaled squared norms, a whole buffer. -/
abbrev scM0_1 : Memref sig .tc .vmem S48x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the output's staging buffer holds after the body at point `t`. -/
def outsAt (c : Dev nD) (t : Fin cfg0.N) : Vec F S48x48x256 .f32 :=
  outV (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the output's at `outsAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The body leaves the block of the packed codes as it was. -/
theorem after0_0 (c : Dev nD) (t : Fin cfg0.N) : (dats m 0 c).after 0 t = iblk m c 0 t := by dsimp only [dats]
/-- The body leaves the block of the scales as it was. -/
theorem after0_1 (c : Dev nD) (t : Fin cfg0.N) : (dats m 0 c).after 1 t = iblk m c 1 t := by dsimp only [dats]
/-- The body leaves the block of the counts as it was. -/
theorem after0_2 (c : Dev nD) (t : Fin cfg0.N) : (dats m 0 c).after 2 t = iblk m c 2 t := by dsimp only [dats]
/-- The body leaves the block of the new counts as it was. -/
theorem after0_3 (c : Dev nD) (t : Fin cfg0.N) : (dats m 0 c).after 3 t = iblk m c 3 t := by dsimp only [dats]
/-- The body leaves the block of the offsets as it was. -/
theorem after0_4 (c : Dev nD) (t : Fin cfg0.N) : (dats m 0 c).after 4 t = iblk m c 4 t := by dsimp only [dats]
/-- The body leaves the output's buffer at `outsAt`. -/
theorem after0_5 (c : Dev nD) (t : Fin cfg0.N) : (dats m 0 c).after 5 t = (outsAt m c t) := by dsimp only [dats]

/-- The packed codes' buffer holds its block at every point. -/
theorem before0_0 (c : Dev nD) (t : Fin cfg0.N) (d) : (dats m 0 c).before 0 t d = iblk m c 0 t :=
  before0_0_of m (dats m 0 c) (A_eq m c 0) (after0_0 m c) t d
/-- The scales' buffer holds its block at every point. -/
theorem before0_1 (c : Dev nD) (t : Fin cfg0.N) (d) : (dats m 0 c).before 1 t d = iblk m c 1 t :=
  before0_1_of m (dats m 0 c) (A_eq m c 1) (after0_1 m c) t d
/-- The counts' buffer holds its block at every point. -/
theorem before0_2 (c : Dev nD) (t : Fin cfg0.N) (d) : (dats m 0 c).before 2 t d = iblk m c 2 t :=
  before0_2_of m (dats m 0 c) (A_eq m c 2) (after0_2 m c) t d
/-- The new counts' buffer holds its block at every point. -/
theorem before0_3 (c : Dev nD) (t : Fin cfg0.N) (d) : (dats m 0 c).before 3 t d = iblk m c 3 t :=
  before0_3_of m (dats m 0 c) (A_eq m c 3) (after0_3 m c) t d
/-- The offsets' buffer holds its block at every point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_run (F := F) c (grid0.coords t) _ (hs0_0 t) _ (hs0_1 t) _ (hs0_2 t) _ (hs0_3 t) _ (hs0_4 t) _ (hs0_5 t) _ (Memref.isWhole_whole _) _ (Memref.isWhole_whole _) (iblk m c 0 t) (iblk m c 1 t) (iblk m c 2 t) (iblk m c 3 t) (iblk m c 4 t) (hH c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m 0 c) (defs₀ (F := F)) Variants.none () Set.univ := fun t => by
  rw [bigSep_W0, bigSep_W0, defs₀_row]
  exact triple_restated (sound_body m hH c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the transposition after the region leaves it (Lib/Pipeline/Frame.lean
    `FramePost`). -/
theorem run_main (hH : Hyps m) : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hH)

/-- The frame, under `Hyps`: the launch runs, the arguments end unchanged and every semaphore counter reads zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.KernelIdeal.Join

end
-- ==== Proof.InRange.lean ====
/-
  The precondition read back, and the kernel's blocks read at entries: each window's block at a grid point as entries of
  the arguments. Together they give `Hyps`: at every grid point every offset word leaves its node's rows inside the block.
-/
module

public import proofs.«01_k».proof.Proof.Whole
public import proofs.«01_k».proof.Proof.Gen.Pre_pre
public import Idealize.ShloMosaic.Lib.ReduceAll
public import Idealize.ShloMosaic.Lib.Pipeline.ValueKit

@[expose] public section

set_option maxRecDepth 16384

noncomputable section

namespace Cert.KernelIdeal.Join

open Idealize.ShloMosaic Idealize.ShloMosaic.TcCoe
open Cert.KernelIdeal.Gen

variable {F : FTy → Type} [FloatOps F]

/-- The precondition's function is true: every offset lies in [0, 1524]. -/
theorem off_le (a0 : IVec S256x1536x128 32) (a1 : FVec F S48x32768 .f32) (a2 a3 a4 : IVec S32768 32)
    (h : Cert.Pre_pre.fn (F := F) a0 a1 a2 a3 a4 = fun _ => 1#1) (n : S32768.Idx) : (a4 n).toNat ≤ 1524 := by
  have e := congrFun h (fun a => a.elim0)
  haveI : Subsingleton Cert.Pre_pre.S_.Idx := ⟨fun a b => funext fun x => x.elim0⟩
  have e2 := Host.reduce_andi_all _ _ _ _ _ e n
  obtain ⟨h1, h2⟩ := IntOp.andi_eq_one.1 e2
  have h1 := IntOp.cmpi_sge.1 h1
  have h2 := IntOp.cmpi_sle.1 h2
  simp only [broadcastInDim, constantI, BitVec.toInt, BitVec.toNat_ofNat] at h1 h2
  omega

variable (m : (ℓ : Loc nD τ sig) → Buf (Elt F) ℓ)

/-- The node at lane `l` of grid point `t`. -/
def nodeAt (t : Fin cfg0.N) (l : Fin 256) : Fin 32768 :=
  ⟨256 * t.val + l.val, by have : t.val < 128 := t.isLt; omega⟩

/-- The region finds the counts reshaped to one row. -/
theorem V_v0 (c : Dev nD) : V m c main_v0 = shapeCast S1x32768 (m ((c : Thread nD τ).loc main_arg2)) shapeCasts_S32768_S1x32768 := by
  simp only [V, V0, hostOps0, List.flatten_cons, List.flatten_nil, List.append_nil]; after_results_simp <;> rfl

/-- The region finds the new counts reshaped to one row. -/
theorem V_v1 (c : Dev nD) : V m c main_v1 = shapeCast S1x32768 (m ((c : Thread nD τ).loc main_arg3)) shapeCasts_S32768_S1x32768 := by
  simp only [V, V0, hostOps0, List.flatten_cons, List.flatten_nil, List.append_nil]; after_results_simp <;> rfl

/-- The region finds the offsets reshaped to one row of 256 per grid point. -/
theorem V_v2 (c : Dev nD) : V m c main_v2 = shapeCast S128x1x256 (m ((c : Thread nD τ).loc main_arg4)) shapeCasts_S32768_S128x1x256 := by
  simp only [V, V0, hostOps0, List.flatten_cons, List.flatten_nil, List.append_nil]; after_results_simp <;> rfl

/-- Window 0's block is the point's two regions. -/
theorem idx0 : ∀ t : Fin cfg0.N, win0_0.index t = ![t.val, 0, 0] := (by decide +kernel : ∀ t : Fin grid0.N, _)
/-- Window 1's block is the point's 256 columns. -/
theorem idx1 : ∀ t : Fin cfg0.N, win0_1.index t = ![0, t.val] := (by decide +kernel : ∀ t : Fin grid0.N, _)
/-- Window 2's block is the point's 256 columns. -/
theorem idx2 : ∀ t : Fin cfg0.N, win0_2.index t = ![0, t.val] := (by decide +kernel : ∀ t : Fin grid0.N, _)
/-- Window 3's block is the point's 256 columns. -/
theorem idx3 : ∀ t : Fin cfg0.N, win0_3.index t = ![0, t.val] := (by decide +kernel : ∀ t : Fin grid0.N, _)
/-- Window 4's block is the point's row. -/
theorem idx4 : ∀ t : Fin cfg0.N, win0_4.index t = ![t.val, 0, 0] := (by decide +kernel : ∀ t : Fin grid0.N, _)
/-- Window 5's block is the point's 256 columns of every slab. -/
theorem idx5 : ∀ t : Fin cfg0.N, win0_5.index t = ![0, 0, t.val] := (by decide +kernel : ∀ t : Fin grid0.N, _)

/-- The packed rows' block at an entry: region `2 t + h` of the packed codes. -/
theorem blk0 (c : Dev nD) (t : Fin cfg0.N) (h : Fin 2) (r : Fin 1536) (d : Fin 128) :
    iblk m c 0 t (ix3 h r d) = m ((c : Thread nD τ).loc main_arg0)
      (ix3 (⟨2 * t.val + h.val, by have : t.val < 128 := t.isLt; omega⟩ : Fin 256) r d) := by
  blk_simp [iblk]
  refine (congrFun (V_main_arg0 m c) _).trans (congrArg (m ((c : Thread nD τ).loc main_arg0)) ?_)
  blk_ext [idx0]

/-- The scales' block at an entry: column `256 t + l`. -/
theorem blk1 (c : Dev nD) (t : Fin cfg0.N) (i : Fin 48) (l : Fin 256) :
    iblk m c 1 t (ix2 i l) = m ((c : Thread nD τ).loc main_arg1) (ix2 i (nodeAt t l)) := by
  blk_simp [iblk]
  refine (congrFun (V_main_arg1 m c) _).trans (congrArg (m ((c : Thread nD τ).loc main_arg1)) ?_)
  blk_ext [idx1, nodeAt]

/-- The counts' block at an entry: the count of node `256 t + l`. -/
theorem blk2 (c : Dev nD) (t : Fin cfg0.N) (l : Fin 256) :
    iblk m c 2 t (ix2 (0 : Fin 1) l) = m ((c : Thread nD τ).loc main_arg2) (ix1 (nodeAt t l)) := by
  blk_simp [iblk]
  refine (congrFun (V_v0 m c) _).trans (shapeCast_apply (s := S32768) (t := S1x32768) _ _ _ (ix1 (nodeAt t l)) ?_)
  simp only [Shape.rowMajor_val_one, Shape.rowMajor_val_two]
  blk_simp [idx2, nodeAt]
  show 256 * t.val + l.val = _
  omega

/-- The new counts' block at an entry: the new count of node `256 t + l`. -/
theorem blk3 (c : Dev nD) (t : Fin cfg0.N) (l : Fin 256) :
    iblk m c 3 t (ix2 (0 : Fin 1) l) = m ((c : Thread nD τ).loc main_arg3) (ix1 (nodeAt t l)) := by
  blk_simp [iblk]
  refine (congrFun (V_v1 m c) _).trans (shapeCast_apply (s := S32768) (t := S1x32768) _ _ _ (ix1 (nodeAt t l)) ?_)
  simp only [Shape.rowMajor_val_one, Shape.rowMajor_val_two]
  blk_simp [idx3, nodeAt]
  show 256 * t.val + l.val = _
  omega

/-- The offsets' block at an entry: the offset of node `256 t + l`. -/
theorem blk4 (c : Dev nD) (t : Fin cfg0.N) (l : Fin 256) :
    iblk m c 4 t (ix3 (0 : Fin 1) (0 : Fin 1) l) = m ((c : Thread nD τ).loc main_arg4) (ix1 (nodeAt t l)) := by
  blk_simp [iblk]
  refine (congrFun (V_v2 m c) _).trans (shapeCast_apply (s := S32768) (t := S128x1x256) _ _ _ (ix1 (nodeAt t l)) ?_)
  simp only [Shape.rowMajor_val_one, Shape.rowMajor_val_three]
  blk_simp [idx4, nodeAt]
  show 256 * t.val + l.val = _
  omega

/-- Offsets in [0, 1524] leave every node's twelve rows inside its block. -/
theorem hyps_of_le (h : ∀ (c : Dev nD) (n : S32768.Idx), (m ((c : Thread nD τ).loc main_arg4) n).toNat ≤ 1524) : Hyps m := by
  intro c t n
  rw [blk4 m c t n]
  exact Nat.add_le_add_right (h c (ix1 (nodeAt t n))) 12

end Cert.KernelIdeal.Join

end
-- ==== Proof.Out.lean ====
/-
  The output array after the launch: entry (i, j, node) is what the node's grid point left at its lane; and the kernel's
  result, which is that array with the nodes first.
-/
module

public import proofs.«01_k».proof.Proof.InRange

@[expose] public section

set_option maxRecDepth 16384

noncomputable section

namespace Cert.KernelIdeal.Join

open Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

/-- The grid point of a node. -/
def pointOf (b : Fin 32768) : Fin cfg0.N := ⟨b.val / 256, by show b.val / 256 < 128; omega⟩

/-- The lane of a node within its grid point. -/
def laneOf (b : Fin 32768) : Fin 256 := ⟨b.val % 256, Nat.mod_lt _ (by decide)⟩

/-- A node is the one at its point's lane. -/
theorem nodeAt_pointOf (b : Fin 32768) : nodeAt (pointOf b) (laneOf b) = b :=
  Fin.ext (Nat.div_add_mod b.val 256)

/-- The point of the node at lane `l` of point `t` is `t`. -/
theorem pointOf_nodeAt (t : Fin cfg0.N) (l : Fin 256) : pointOf (nodeAt t l) = t :=
  Fin.ext (by show (256 * t.val + l.val) / 256 = t.val; omega)

/-- The lane of the node at lane `l` of point `t` is `l`. -/
theorem laneOf_nodeAt (t : Fin cfg0.N) (l : Fin 256) : laneOf (nodeAt t l) = l :=
  Fin.ext (by show (256 * t.val + l.val) % 256 = l.val; omega)

/-- What the launch leaves in the output array. -/
def outArr (c : Dev nD) : Vec F S48x48x32768 .f32 :=
  fun i => outsAt m c (pointOf (i 2)) (ix3 (i 0) (i 1) (laneOf (i 2)))

/-- The output array at the node of lane `l` of point `t`. -/
theorem outArr_nodeAt (c : Dev nD) (t : Fin cfg0.N) (i j : Fin 48) (l : Fin 256) :
    outArr m c (ix3 i j (nodeAt t l)) = outsAt m c t (ix3 i j l) := by
  show outsAt m c (pointOf (nodeAt t l)) (ix3 i j (laneOf (nodeAt t l))) = _
  rw [pointOf_nodeAt, laneOf_nodeAt]

/-- The output array ends at `outArr`: the points' blocks tile it along the nodes. -/
theorem arrAt_out (c : Dev nD) : (dats m 0 c).arrAt 5 cfg0.N = outArr m c := by
  refine (dats m 0 c).arrAt_eq_of_covers 5 _ (by decide +kernel) fun t hf y => ?_
  blk_simp
  rw [after0_5]
  have e : (win0_5.blk t).view.emb y = ix3 (y 0 : Fin 48) (y 1 : Fin 48) (nodeAt t (y 2)) := by
    blk_ext [idx5, nodeAt]
  exact (congrArg (outsAt m c t) (eq_ix3 y)).trans ((outArr_nodeAt m c t _ _ _).symm.trans (congrArg (outArr m c) e).symm)

/-- The kernel's result: the output array with the nodes first. -/
def resArr (c : Dev nD) : Vec F S32768x48x48 .f32 :=
  transpose S32768x48x48 [2, 0, 1] (outArr m c) transposes_S48x48x32768_S32768x48x48_2_0_1

/-- The result at a node and two slots. -/
theorem resArr_apply (c : Dev nD) (b : Fin 32768) (i j : Fin 48) : resArr m c (ix3 b i j) = outArr m c (ix3 i j b) := by
  refine transpose_apply _ _ _ (ix3 b i j) (ix3 i j b) ?_
  intro a
  fin_cases a <;> rfl

/-- The transposition after the launch leaves the result's buffer at `resArr`. -/
theorem tail_out (c : Dev nD) : Pipeline.afterTail₀ cfgs (dats m) 0 (V0 m) [hostOps1] c main_v4 = resArr m c := by
  unfold Pipeline.afterTail₀
  simp only [hostOps1, List.flatten_cons, List.flatten_nil, List.append_nil]
  rw [StableHlo.after_cons, StableHlo.after_nil]
  refine (StableHlo.unary_result' ..).trans ?_
  exact congrArg (transpose S32768x48x48 [2, 0, 1] · transposes_S48x48x32768_S32768x48x48_2_0_1)
    ((Pipeline.withArrays_arr spec0 (by decide) c (V0 m c) _ 5).trans (arrAt_out m c))

/-- The run ends with the result's buffer at `resArr` and the arguments unchanged. -/
theorem run_out (hH : Hyps m) : θ_run defs (onTc (τ := τ) (main (F := F))) ⟨m, fun _ => 0, ρ⟩ (fun r => ∀ c : Dev nD,
      r.2.mem ((c.tc : Thread nD τ).loc main_v4) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨((h.1 c).2 main_v4 (Pipeline.mem_restRefs_of main_v4 (by decide) (by decide))).trans (tail_out m c), h.2 c⟩)
    (θ_run_and (run_main m ρ hH) (unchanged m ρ hH))

end Cert.KernelIdeal.Join

end
-- ==== Proof.Bytes.lean ====
/-
  The bytes of a packed word and the kernel's two unpackings of it: the reinterpretation of a column of 32-bit words as
  four times as many 8-bit rows, and the reference's pair of shifts.
-/
module

public import Idealize.ShloMosaic.Lib.BitcastPair
public import Idealize.ShloMosaic.Lib.Pointwise

@[expose] public section

namespace Cert.Join

open Idealize.ShloMosaic

/-- Byte `k` of a word, its lowest being byte 0. -/
def byteOf (w : BitVec 32) (k : Nat) : BitVec 8 := w.extractLsb' (8 * k) 8

/-- A column of 32-bit words read at 8 bits: result row `r` is byte `r % 4` of source row `r / 4`. -/
theorem bitcast_32_8 {s t : Shape} (x : s.Idx → BitVec 32) (h : s.Bitcasts 32 t 8) (j : t.Idx) :
    bitcast t 8 x h j = byteOf (x (h.srcIdx j (t.row j / 4) (fun a ha => by
      have := h.pos_lt j 0 (by decide) a ha
      omega))) (t.row j % 4) := by
  apply BitVec.eq_of_getLsbD_eq
  intro i hi
  rw [bitcast_getLsbD x h j i hi (by decide), byteOf, BitVec.getLsbD_extractLsb']
  have ep : (t.row j * 8 + i) / 32 = t.row j / 4 := by omega
  have eq : (t.row j * 8 + i) % 32 = 8 * (t.row j % 4) + i := by omega
  rw [h.srcIdx_congr j ep _ (fun a ha => by
    have := h.pos_lt j 0 (by decide) a ha
    omega), eq]
  simp [hi]

/-- The same for the kernel's tile of twelve rows: row `i` of the result is byte `i % 4` of row `i / 4`. -/
theorem bitcast_rows (x : (⟨2, ![12, 128]⟩ : Shape).Idx → BitVec 32)
    (h : (⟨2, ![12, 128]⟩ : Shape).Bitcasts 32 ⟨2, ![48, 128]⟩ 8) (i : Fin 48) (d : Fin 128) :
    bitcast ⟨2, ![48, 128]⟩ 8 x h (ix2 i d) = byteOf (x (ix2 (⟨i.val / 4, by omega⟩ : Fin 12) d)) (i.val % 4) := by
  rw [bitcast_32_8]
  refine congrArg₂ byteOf (congrArg x ?_) rfl
  funext a
  refine Fin.ext ?_
  match a with
  | ⟨0, h0⟩ => rw [h.srcIdx_row _ _ _ ⟨0, h0⟩ rfl]; rfl
  | ⟨1, h1⟩ => rw [h.srcIdx_other _ _ _ ⟨1, h1⟩ (show ¬(1 + 2 = 2) by decide)]; rfl

/-- Shifting byte `k` to the top and back down reads it as a signed integer. -/
theorem toInt_shifts (w : BitVec 32) (k : Nat) (hk : k < 4) :
    ((w <<< (24 - 8 * k)).sshiftRight 24).toInt = (byteOf w k).toInt := by
  have e : (w <<< (24 - 8 * k)).sshiftRight 24 = (byteOf w k).signExtend 32 := by
    apply BitVec.eq_of_getLsbD_eq
    intro i hi
    unfold byteOf
    simp only [BitVec.getLsbD_sshiftRight, BitVec.getLsbD_shiftLeft, BitVec.getLsbD_signExtend, BitVec.getLsbD_extractLsb',
      BitVec.msb_eq_getLsbD_last]
    have h32 : ¬ 32 ≤ i := by omega
    rcases Nat.lt_or_ge i 8 with h8 | h8
    · have e1 : 24 + i - (24 - 8 * k) = 8 * k + i := by omega
      have e2 : 24 + i < 32 := by omega
      have e3 : ¬ 24 + i < 24 - 8 * k := by omega
      simp [h32, h8, e1, e2, e3, hi]
    · have e2 : ¬ 24 + i < 32 := by omega
      have e3 : ¬ i < 8 := by omega
      have e4 : 31 - (24 - 8 * k) = 8 * k + 7 := by omega
      have e5 : ¬ 31 < 24 - 8 * k := by omega
      simp [h32, e2, e3, e4, e5, hi]
  rw [e, BitVec.toInt_signExtend_of_le (by decide)]

end Cert.Join
-- ==== Proof.Spec.lean ====
/-
  The distances in closed form over the kernel's arguments: the packed codes `p`, the scales `s`, the two counts and the
  offset of each node. Both programs' results are read as `joinDist`.
-/
module

public import proofs.«01_k».proof.Proof.Bytes
public import Idealize.ShloMosaic.Lib.Affine
public import Idealize.ShloMosaic.PureOps.Ideal

@[expose] public section

noncomputable section

namespace Cert.Join

open Idealize.ShloMosaic

/-- The packed word that holds component `d` of slot `i` of node `b`, its row counted from the word `o`: row `o + i / 4`
    of region `b / 128` (held at the region's last row if it would fall outside). -/
def wordOf (p : (⟨3, ![256, 1536, 128]⟩ : Shape).Idx → BitVec 32) (o : BitVec 32) (b : Fin 32768) (i : Fin 48)
    (d : Fin 128) : BitVec 32 :=
  p (ix3 (⟨b.val / 128, by omega⟩ : Fin 256) (⟨min (o.toNat + i.val / 4) 1535, by omega⟩ : Fin 1536) d)

/-- Component `d` of the code of slot `i` of node `b`: byte `i % 4` of its word, read signed. -/
def code (p : (⟨3, ![256, 1536, 128]⟩ : Shape).Idx → BitVec 32) (o : BitVec 32) (b : Fin 32768) (i : Fin 48)
    (d : Fin 128) : EReal :=
  (((byteOf (wordOf p o b i d) (i.val % 4)).toInt : ℝ) : EReal)

/-- The dot product of the codes of slots `i` and `j` of node `b`. -/
def slotDot (p : (⟨3, ![256, 1536, 128]⟩ : Shape).Idx → BitVec 32) (o : BitVec 32) (b : Fin 32768) (i j : Fin 48) : EReal :=
  ∑ d : Fin 128, code p o b i d * code p o b j d

/-- Which pairs of slots are joined: both are candidates and at least one of them is new. -/
def Keep (cnt new : BitVec 32) (i j : Fin 48) : Prop :=
  ((i.val : Int) < cnt.toInt ∧ (j.val : Int) < cnt.toInt) ∧ ((i.val : Int) < new.toInt ∨ (j.val : Int) < new.toInt)

open Classical in
/-- The distance of slots `i` and `j` of node `b`: the two scaled squared norms minus twice the scaled dot, or the
    constant of the pairs that are not joined. -/
def joinDist (p : (⟨3, ![256, 1536, 128]⟩ : Shape).Idx → BitVec 32) (s : (⟨2, ![48, 32768]⟩ : Shape).Idx → EReal)
    (cnt new off : (⟨1, ![32768]⟩ : Shape).Idx → BitVec 32) (i j : Fin 48) (b : Fin 32768) : EReal :=
  if Keep (cnt (ix1 b)) (new (ix1 b)) i j then
    s (ix2 i b) * s (ix2 i b) * slotDot p (off (ix1 b)) b i i + s (ix2 j b) * s (ix2 j b) * slotDot p (off (ix1 b)) b j j
      - Ideal.ofBits FTy.f32 0x40000000#32 * s (ix2 i b) * s (ix2 j b) * slotDot p (off (ix1 b)) b i j
  else Ideal.ofBits FTy.f32 0xBF800000#32

/-- The word of a small natural is that natural, read signed. -/
theorem toInt_small (n : Nat) (h : n < 2 ^ 31) : (BitVec.ofNat 32 n).toInt = n := by
  have e : (BitVec.ofNat 32 n).toNat = n := by rw [BitVec.toNat_ofNat]; omega
  rw [BitVec.toInt_eq_toNat_of_lt (by rw [e]; omega), e]

/-- A selection by a bit is a choice by whether the bit is set. -/
theorem select_eq_ite {α : Type} (c : BitVec 1) (P : Prop) [Decidable P] (h : c = 1#1 ↔ P) (x y : α) :
    Scalar.select c x y = if P then x else y := by
  by_cases hp : P
  · rw [h.2 hp, if_pos hp]; rfl
  · rw [if_neg hp]
    have e : c = 0#1 := (BitVec.eq_zero_or_eq_one c).resolve_right fun e => hp (h.1 e)
    rw [e]; rfl

/-- The kernel's form of the joined pairs: slot `j` lies below a bound chosen by slot `i`. -/
theorem bound_iff (cnt new : BitVec 32) (i j : Fin 48) :
    IntOp.cmpi .slt (BitVec.ofNat 32 j.val)
      (Scalar.select (IntOp.cmpi .slt (BitVec.ofNat 32 i.val) cnt)
        (Scalar.select (IntOp.cmpi .slt (BitVec.ofNat 32 i.val) new) cnt (IntOp.minsi new cnt)) 0#32) = 1#1
      ↔ Keep cnt new i j := by
  have hi := toInt_small i.val (by omega)
  have hj := toInt_small j.val (by omega)
  rw [select_eq_ite _ _ IntOp.cmpi_slt, select_eq_ite _ _ IntOp.cmpi_slt, IntOp.cmpi_slt, hi, hj]
  unfold Keep IntOp.minsi
  simp only [BitVec.slt_iff_toInt_lt]
  have h0 : (0#32).toInt = 0 := by decide
  split_ifs <;> omega

/-- The reference's form of the joined pairs: the four comparisons, conjoined and disjoined as bits. -/
theorem bits_iff (cnt new : BitVec 32) (i j : Fin 48) :
    IntOp.andi (IntOp.andi (IntOp.cmpi .slt (BitVec.ofNat 32 i.val) cnt) (IntOp.cmpi .slt (BitVec.ofNat 32 j.val) cnt))
      (IntOp.ori (IntOp.cmpi .slt (BitVec.ofNat 32 i.val) new) (IntOp.cmpi .slt (BitVec.ofNat 32 j.val) new)) = 1#1
      ↔ Keep cnt new i j := by
  rw [IntOp.andi_eq_one, IntOp.andi_eq_one, IntOp.ori_eq_one, IntOp.cmpi_slt, IntOp.cmpi_slt, IntOp.cmpi_slt,
    IntOp.cmpi_slt, toInt_small i.val (by omega), toInt_small j.val (by omega)]
  rfl

end Cert.Join

end
-- ==== Proof.KernelValue.lean ====
/-
  The kernel's output over the extended reals, entry by entry, as the closed form `Cert.Join.joinDist`.
-/
module

public import proofs.«01_k».proof.Proof.Out
public import proofs.«01_k».proof.Proof.Spec

@[expose] public section

set_option maxRecDepth 16384

noncomputable section

namespace Cert.KernelIdeal.Join

open Idealize.ShloMosaic Idealize.ShloMosaic.TcCoe
open Cert.KernelIdeal.Gen Cert.Join

/-- The tile of twelve packed rows unpacked and converted: entry `(i, d)` is byte `i % 4` of row `i / 4`, read signed. -/
theorem unpack_apply (φ : FTy) (u : Vec Ideal S1x12x128 .i32) (i : Fin 48) (d : Fin 128) :
    (FloatOps.sitofp φ (bitcast S48x128 8 (shapeCast S12x128 u shapeCasts_S1x12x128_S12x128)
      bitcasts_S12x128_w32_S48x128_w8 (ix2 i d)) : Ideal φ)
      = (((byteOf (u (ix3 (0 : Fin 1) (⟨i.val / 4, by omega⟩ : Fin 12) d)) (i.val % 4)).toInt : ℝ) : EReal) := by
  rw [show bitcast S48x128 8 (shapeCast S12x128 u shapeCasts_S1x12x128_S12x128) bitcasts_S12x128_w32_S48x128_w8 (ix2 i d)
    = _ from bitcast_rows _ _ i d]
  pointwise
  rfl

/-- The left half of the pair's dots is the first node's: the second node's codes meet zeros. -/
theorem pay3_left (u v : Vec Ideal S1x12x128 .i32) (i j : Fin 48) :
    k0_pay3 u v (ix3 (0 : Fin 1) i (⟨j.val, by omega⟩ : Fin 96)) = ∑ d : Fin 128,
      (((byteOf (u (ix3 (0 : Fin 1) (⟨i.val / 4, by omega⟩ : Fin 12) d)) (i.val % 4)).toInt : ℝ) : EReal)
        * (((byteOf (u (ix3 (0 : Fin 1) (⟨j.val / 4, by omega⟩ : Fin 12) d)) (j.val % 4)).toInt : ℝ) : EReal) := by
  unfold k0_pay3
  pointwise
  simp only [unpack_apply, mul_zero, Finset.sum_const_zero, add_zero]

/-- The right half of the pair's dots is the second node's. -/
theorem pay3_right (u v : Vec Ideal S1x12x128 .i32) (i j : Fin 48) :
    k0_pay3 u v (ix3 (0 : Fin 1) i (⟨48 + j.val, by omega⟩ : Fin 96)) = ∑ d : Fin 128,
      (((byteOf (v (ix3 (0 : Fin 1) (⟨i.val / 4, by omega⟩ : Fin 12) d)) (i.val % 4)).toInt : ℝ) : EReal)
        * (((byteOf (v (ix3 (0 : Fin 1) (⟨j.val / 4, by omega⟩ : Fin 12) d)) (j.val % 4)).toInt : ℝ) : EReal) := by
  unfold k0_pay3
  pointwise
  simp only [unpack_apply, mul_zero, Finset.sum_const_zero, zero_add]

variable (m : (ℓ : Loc nD τ sig) → Buf (Elt Ideal) ℓ) (c : Dev nD)

/-- The twelve rows the kernel reads for lane `l` of point `t`, at an entry: the packed word of the closed form. -/
theorem rowsAt_apply (t : Fin cfg0.N) (l : Fin 256) (h : Fin 2) (hh : l.val / 128 = h.val) (l' : Fin 256)
    (hl : l' = l) (i : Fin 48) (d : Fin 128) :
    rowsAt (F := Ideal) (iblk m c 0 t) h (iblk m c 4 t (ix3 (0 : Fin 1) (0 : Fin 1) l'))
        (ix3 (0 : Fin 1) (⟨i.val / 4, by omega⟩ : Fin 12) d)
      = wordOf (m ((c : Thread nD τ).loc main_arg0)) (m ((c : Thread nD τ).loc main_arg4) (ix1 (nodeAt t l)))
          (nodeAt t l) i d := by
  subst hl
  unfold rowsAt wordOf
  rw [blk4]
  refine (blk0 m c t _ _ _).trans ?_
  have e : (⟨2 * t.val + h.val, by have : t.val < 128 := t.isLt; omega⟩ : Fin 256)
      = ⟨(nodeAt t l').val / 128, by omega⟩ := Fin.ext (by
    show 2 * t.val + h.val = (256 * t.val + l'.val) / 128
    omega)
  rw [e]
  rfl

/-- The block of dots at an entry: the closed form's dot. -/
theorem gram_apply (t : Fin cfg0.N) (i j : Fin 48) (l : Fin 256) :
    gram (F := Ideal) (iblk m c 0 t) (iblk m c 4 t) (ix3 i j l)
      = slotDot (m ((c : Thread nD τ).loc main_arg0)) (m ((c : Thread nD τ).loc main_arg4) (ix1 (nodeAt t l)))
          (nodeAt t l) i j := by
  unfold slotDot code
  have hl : l.val < 256 := l.isLt
  rcases Nat.lt_or_ge l.val 128 with h | h
  · have e : (⟨(l.val / 128) * 48 + j.val, by omega⟩ : Fin 96) = ⟨j.val, by omega⟩ := Fin.ext (by
      show (l.val / 128) * 48 + j.val = j.val
      omega)
    unfold gram pairDot
    simp only [ix3_0, ix3_1, ix3_2]
    rw [e, pay3_left]
    have el : (⟨l.val % 128, by omega⟩ : Fin 256) = l := Fin.ext (Nat.mod_eq_of_lt h)
    simp only [rowsAt_apply m c t l 0 (by show l.val / 128 = 0; omega) _ el]
  · have e : (⟨(l.val / 128) * 48 + j.val, by omega⟩ : Fin 96) = ⟨48 + j.val, by omega⟩ := Fin.ext (by
      show (l.val / 128) * 48 + j.val = 48 + j.val
      omega)
    unfold gram pairDot
    simp only [ix3_0, ix3_1, ix3_2]
    rw [e, pay3_right]
    have el : (⟨l.val % 128 + 128, by omega⟩ : Fin 256) = l := Fin.ext (by
      show l.val % 128 + 128 = l.val
      omega)
    simp only [rowsAt_apply m c t l 1 (by show l.val / 128 = 1; omega) _ el]

/-- The scale of slot `i` of node `b`. -/
def sAt (i : Fin 48) (b : Fin 32768) : EReal := m ((c : Thread nD τ).loc main_arg1) (ix2 i b)

/-- The scaled squared norms at an entry. -/
theorem qv_apply (t : Fin cfg0.N) (i : Fin 48) (l : Fin 256) :
    qv (F := Ideal) (iblk m c 0 t) (iblk m c 1 t) (iblk m c 4 t) (ix2 i l)
      = sAt m c i (nodeAt t l) * sAt m c i (nodeAt t l)
        * slotDot (m ((c : Thread nD τ).loc main_arg0)) (m ((c : Thread nD τ).loc main_arg4) (ix1 (nodeAt t l)))
          (nodeAt t l) i i := by
  unfold qv k0_pay1 k0_pay111 diag
  pointwise
  rw [gram_apply, blk1]
  rfl

/-- The output block at an entry: the closed form's distance. -/
theorem outV_apply (t : Fin cfg0.N) (i j : Fin 48) (l : Fin 256) :
    outV (F := Ideal) (iblk m c 0 t) (iblk m c 1 t) (iblk m c 2 t) (iblk m c 3 t) (iblk m c 4 t) (ix3 i j l)
      = joinDist (m ((c : Thread nD τ).loc main_arg0)) (m ((c : Thread nD τ).loc main_arg1))
          (m ((c : Thread nD τ).loc main_arg2)) (m ((c : Thread nD τ).loc main_arg3))
          (m ((c : Thread nD τ).loc main_arg4)) i j (nodeAt t l) := by
  classical
  unfold outV distSlab k0_pay2 rowOf slabOf
  pointwise
  rw [show Scf.iv 0#32 1#32 i.val = BitVec.ofNat 32 i.val by simp [Scf.iv], blk2, blk3, blk1, blk1, qv_apply, qv_apply, gram_apply,
    select_eq_ite _ _ (bound_iff _ _ i j)]
  unfold joinDist
  congr

/-- The kernel's result array at an entry: the closed form's distance. -/
theorem outArr_apply (i j : Fin 48) (b : Fin 32768) :
    outArr m c (ix3 i j b)
      = joinDist (m ((c : Thread nD τ).loc main_arg0)) (m ((c : Thread nD τ).loc main_arg1))
          (m ((c : Thread nD τ).loc main_arg2)) (m ((c : Thread nD τ).loc main_arg3))
          (m ((c : Thread nD τ).loc main_arg4)) i j b := by
  have h := outV_apply m c (pointOf b) i j (laneOf b)
  rw [nodeAt_pointOf] at h
  exact h

end Cert.KernelIdeal.Join

end
-- ==== Proof.RefValue.lean ====
/-
  The reference's result over the extended reals, entry by entry, as the closed form `Cert.Join.joinDist`, where every offset
  lies in [0, 1524].
-/
module

public import proofs.«01_k».proof.Proof.Gen.ReferenceIdeal.Run
public import proofs.«01_k».proof.Proof.Spec
public import Idealize.ShloMosaic.Lib.Pointwise
public import Idealize.ShloMosaic.Lib.Routing.Words
public import Idealize.ShloMosaic.Lib.Pipeline.Value

@[expose] public section

set_option maxRecDepth 16384

noncomputable section

namespace Cert.ReferenceIdeal.Join

open Idealize.ShloMosaic Idealize.ShloMosaic.TcCoe
open Cert.ReferenceIdeal Cert.Join

/-- The gather of whole rows read at an entry: the row its start index names. -/
theorem gather_rows {α : Type} (x : S393216x128.Idx → α) (idx : IVec S32768x48x1 32) (b : Fin 32768) (i : Fin 48) (d : Fin 128)
    (r : Fin 393216) (hr : (idx (ix3 b i (0 : Fin 1))).toInt = r.val) :
    Host.gather gather_S393216x128_S32768x48x1_S32768x48x128_2_0_n_n_0_2_1128 x idx (ix3 b i d) = x (ix2 r d) := by
  unfold Host.gather
  refine congrArg x (funext fun a => Fin.ext ?_)
  show GatherDims.start _ (ix3 b i d) idx a + GatherDims.batchCoord _ (ix3 b i d) a + GatherDims.offCoord _ (ix3 b i d) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S393216x128_S32768x48x1_S32768x48x128_2_0_n_n_0_2_1128.startIndexMap from List.mem_singleton.mpr rfl)]
    have hsi : (gather_S393216x128_S32768x48x1_S32768x48x128_2_0_n_n_0_2_1128).siIdx (ix3 b i d)
        ⟨List.idxOf (0 : Fin 2) [(0 : Fin 2)], List.idxOf_lt_length_iff.2 (List.mem_singleton.mpr rfl)⟩ = ix3 b i (0 : Fin 1) := by
      funext q; refine Fin.ext ?_
      match q with
      | ⟨0, _⟩ => rfl
      | ⟨1, _⟩ => rfl
      | ⟨2, _⟩ => rfl
    show min (idx ((gather_S393216x128_S32768x48x1_S32768x48x128_2_0_n_n_0_2_1128).siIdx (ix3 b i d) ⟨List.idxOf (0 : Fin 2) [(0 : Fin 2)], _⟩)).toInt.toNat (393216 - 1) + 0 + 0 = r.val
    rw [hsi, hr]
    omega
  · unfold GatherDims.start
    rw [dif_neg (show (1 : Fin 2) ∉ gather_S393216x128_S32768x48x1_S32768x48x128_2_0_n_n_0_2_1128.startIndexMap from
      show (1 : Fin 2) ∉ [(0 : Fin 2)] by decide)]
    show 0 + 0 + GatherDims.offCoord _ (ix3 b i d) 1 = d.val
    rw [Nat.zero_add]
    rfl

/-- The word the reference gathers at `(b, i, d)`: the packed word of the closed form. -/
theorem word_apply (p : IVec S256x1536x128 32) (off : IVec S32768 32) (hoff : ∀ n, (off n).toNat ≤ 1524)
    (b : Fin 32768) (i : Fin 48) (d : Fin 128) :
    Host.gather gather_S393216x128_S32768x48x1_S32768x48x128_2_0_n_n_0_2_1128
      (shapeCast S393216x128 p Gen.shapeCasts_S256x1536x128_S393216x128)
      (broadcastInDim S32768x48x1 ![0, 1] Gen.bcast_S32768x48_S32768x48x1_0_1
        (addi
          (broadcastInDim S32768x48 ![0, 1] Gen.bcast_S32768x1_S32768x48_0_1
            (broadcastInDim S32768x1 ![0] Gen.bcast_S32768_S32768x1_0
              (addi
                (muli
                  (Host.divsi (iotaInDim S32768 32 0)
                    (broadcastInDim S32768 ![] Gen.bcast_S_S32768 (constantI S_ 32 128#32)))
                  (broadcastInDim S32768 ![] Gen.bcast_S_S32768 (constantI S_ 32 1536#32)))
                off)))
          (broadcastInDim S32768x48 ![0, 1] Gen.bcast_S1x48_S32768x48_0_1
            (broadcastInDim S1x48 ![1] Gen.bcast_S48_S1x48_1
              (Host.divsi (iotaInDim S48 32 0)
                (broadcastInDim S48 ![] Gen.bcast_S_S48 (constantI S_ 32 4#32)))))))
      (ix3 b i d) = wordOf p (off (ix1 b)) b i d := by
  have ho := hoff (ix1 b)
  have hb : b.val < 32768 := b.isLt
  have hi : i.val < 48 := i.isLt
  rw [gather_rows _ _ b i d (⟨(b.val / 128) * 1536 + ((off (ix1 b)).toNat + i.val / 4), by omega⟩ : Fin 393216) ?_]
  · unfold wordOf
    refine shapeCast_apply (s := S256x1536x128) (t := S393216x128) _ _ _ _ ?_
    simp only [Shape.rowMajor_val_three, Shape.rowMajor_val_two]
    show ((b.val / 128) * 1536 + min ((off (ix1 b)).toNat + i.val / 4) 1535) * 128 + d.val
      = ((b.val / 128) * 1536 + ((off (ix1 b)).toNat + i.val / 4)) * 128 + d.val
    omega
  · pointwise
    rw [show (128#32) = BitVec.ofNat 32 128 from rfl, show (4#32) = BitVec.ofNat 32 4 from rfl,
      Routing.divsi_word _ (by omega) (by omega) (by omega), Routing.divsi_word _ (by omega) (by omega) (by omega)]
    unfold IntOp.addi IntOp.muli
    have e1 : b.val / 128 % 2 ^ 32 = b.val / 128 := by omega
    have e2 : i.val / 4 % 2 ^ 32 = i.val / 4 := by omega
    have e3 : b.val / 128 ≤ 255 := by omega
    have e4 : b.val / 128 * 1536 + (off (ix1 b)).toNat + i.val / 4 < 2 ^ 31 := by omega
    have e5 : (BitVec.ofNat 32 (b.val / 128) * 1536#32 + off (ix1 b) + BitVec.ofNat 32 (i.val / 4)).toNat
        = b.val / 128 * 1536 + (off (ix1 b)).toNat + i.val / 4 := by
      simp only [BitVec.toNat_add, BitVec.toNat_mul, BitVec.toNat_ofNat, e1, e2]
      norm_num
      omega
    rw [BitVec.toInt_eq_toNat_of_lt (by rw [e5]; omega), e5, Nat.add_assoc]

/-- The shift that brings byte `i % 4` of a word to the top. -/
theorem shift_word : ∀ i : Fin 48, IntOp.subi (24#32) (IntOp.muli (8#32) (IntOp.remsi .host (BitVec.ofNat 32 i.val) 4#32))
    = BitVec.ofNat 32 (24 - 8 * (i.val % 4)) := by decide +kernel

/-- The reference's unpacking of a word: byte `i % 4`, read signed and converted. -/
theorem unpack_apply (φ : FTy) (w : BitVec 32) (i : Fin 48) :
    (FloatOps.sitofp φ (IntOp.shrsi .host (IntOp.shli .host w
      (IntOp.subi (24#32) (IntOp.muli (8#32) (IntOp.remsi .host (BitVec.ofNat 32 i.val) 4#32)))) 24#32) : Ideal φ)
      = (((byteOf w (i.val % 4)).toInt : ℝ) : EReal) := by
  have e : (BitVec.ofNat 32 (24 - 8 * (i.val % 4))).toNat = 24 - 8 * (i.val % 4) := by rw [BitVec.toNat_ofNat]; omega
  rw [shift_word, ← toInt_shifts w (i.val % 4) (by omega)]
  unfold IntOp.shrsi IntOp.shli
  rw [if_pos (by decide), if_pos (by rw [e]; omega)]
  unfold BitVec.sshiftRight'
  rw [BitVec.shiftLeft_eq', e]
  rfl

/-- The reference's result at an entry: the closed form's distance. -/
theorem ref_apply (m : (ℓ : Loc nD τ sig) → Buf (Elt Ideal) ℓ) (c : Dev nD)
    (hoff : ∀ n, (m ((c : Thread nD τ).loc main_arg4) n).toNat ≤ 1524) (i j : Fin 48) (b : Fin 32768) :
    Cert.ReferenceIdeal.Value.res_main_v70 m c (ix3 b i j)
      = joinDist (m ((c : Thread nD τ).loc main_arg0)) (m ((c : Thread nD τ).loc main_arg1))
          (m ((c : Thread nD τ).loc main_arg2)) (m ((c : Thread nD τ).loc main_arg3))
          (m ((c : Thread nD τ).loc main_arg4)) i j b := by
  classical
  unfold Cert.ReferenceIdeal.Value.res_main_v70
  pointwise
  rw [select_eq_ite _ _ (bits_iff _ _ i j)]
  simp only [word_apply _ _ hoff, unpack_apply]
  unfold joinDist slotDot code
  congr

end Cert.ReferenceIdeal.Join

end
-- ==== Proof.lean ====
/-
  The claims put together: the frames of the kernel at both instances and of the reference, and the equality of the
  kernel's and the reference's results over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pre
public import proofs.«01_k».proof.Proof.Bits.InRange
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Reference and kernel leave the same array where the arguments agree and every offset lies in [0, 1524]. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hoff : ∀ n, (m ((c.tc : Thread Cert.KernelIdeal.nD Cert.KernelIdeal.τ).loc Cert.KernelIdeal.main_arg4) n).toNat ≤ 1524)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v70 m' c = Cert.KernelIdeal.Join.resArr m c := by
  funext y
  rw [eq_ix3 y]
  refine (Cert.ReferenceIdeal.Join.ref_apply m' c (by rw [h4]; exact hoff) (y 1) (y 2) (y 0)).trans ?_
  rw [h0, h1, h2, h3, h4]
  exact ((Cert.KernelIdeal.Join.resArr_apply m c (y 0) (y 1) (y 2)).trans
    (Cert.KernelIdeal.Join.outArr_apply m c (y 1) (y 2) (y 0))).symm

/-- The reference runs from any memory and leaves its arguments and the counters as they were. -/
theorem reference_frame : Cert.quiescent_ReferenceIdeal := fun m ρ _ => (θ_run Cert.ReferenceIdeal.defs _ _).mono
  (fun r h => ⟨fun c => (h c).2, Idealize.ShloMosaic.sem_eq_zero_of_no_sems (by decide) r.2⟩)
  (Cert.ReferenceIdeal.Value.run m ρ)

/-- Every claim: the two kernels and the reference run and leave their arguments and the counters as they were, and the
    kernel's result is the reference's over the extended reals. -/
theorem claim : Cert.Claim := ⟨Cert.Kernel.Gen.facts, Cert.KernelIdeal.Gen.facts, Cert.ReferenceIdeal.Gen.facts, Cert.Pre_pre.Gen.facts,
  fun m ρ h => Cert.Kernel.Join.frame m ρ (Cert.Kernel.Join.hyps_of_le m fun c => Cert.Kernel.Join.off_le _ _ _ _ _ (h c)),
  fun m ρ h => Cert.KernelIdeal.Join.frame m ρ
    (Cert.KernelIdeal.Join.hyps_of_le m fun c => Cert.KernelIdeal.Join.off_le _ _ _ _ _ (h c)),
  reference_frame,
  fun m ρ _ => reference_frame m ρ trivial,
  trivial,
  fun m ρ m' ρ' h hargs =>
    have hoff := fun c => Cert.KernelIdeal.Join.off_le _ _ _ _ _ (h c)
    ⟨Cert.KernelIdeal.Join.resArr m,
      Cert.KernelIdeal.Join.run_out m ρ (Cert.KernelIdeal.Join.hyps_of_le m hoff),
      (θ_run Cert.ReferenceIdeal.defs _ _).mono
        (fun _ hr c => ⟨(hr c).1.trans (results_agree m m' c (hoff c) (hargs c).1 (hargs c).2.1 (hargs c).2.2.1
          (hargs c).2.2.2.1 (hargs c).2.2.2.2), (hr c).2⟩)
        (Cert.ReferenceIdeal.Value.run m' ρ')⟩⟩

end Cert.Proof

end
